-- ==== Defs.lean ====
def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_ReferenceBIdeal (m : (ℓ : Loc Cert.ReferenceBIdeal.nD Cert.ReferenceBIdeal.τ Cert.ReferenceBIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3))
      ∧ r.2.sem = fun _ => 0)

def preserves_KernelA_KernelAIdeal : Prop :=
  IdealRules.named_const.Statement Cert.KernelAIdeal.κ "mask" .f32 0xFF7FFFFF#32 ⊥

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)) →
    ∃ (v0 : (c : Dev Cert.KernelAIdeal.nD) → Buf (Elt Ideal) ((c.tc : Thread Cert.KernelAIdeal.nD Cert.KernelAIdeal.τ).loc Cert.KernelAIdeal.main_v55_0)) (v1 : (c : Dev Cert.KernelAIdeal.nD) → Buf (Elt Ideal) ((c.tc : Thread Cert.KernelAIdeal.nD Cert.KernelAIdeal.τ).loc Cert.KernelAIdeal.main_v55_1)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v55_0) = v0 c
          ∧ r.2.mem ((c.tc : Thread Cert.KernelAIdeal.nD Cert.KernelAIdeal.τ).loc Cert.KernelAIdeal.main_v55_1) = v1 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v63) = v0 c
          ∧ r.2.mem ((c.tc : Thread Cert.ReferenceAIdeal.nD Cert.ReferenceAIdeal.τ).loc Cert.ReferenceAIdeal.main_v67) = v1 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3))

def preserves_KernelB_KernelBIdeal : Prop :=
  IdealRules.named_const.Statement Cert.KernelBIdeal.κ "mask" .f32 0xFF7FFFFF#32 ⊥

def algebraic_KernelBIdeal_ReferenceBIdeal [hKernelBIdeal : Cert.KernelBIdeal.Facts] [hReferenceBIdeal : Cert.ReferenceBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)) →
    ∃ (v0 : (c : Dev Cert.KernelBIdeal.nD) → Buf (Elt Ideal) ((c.tc : Thread Cert.KernelBIdeal.nD Cert.KernelBIdeal.τ).loc Cert.KernelBIdeal.main_v55_0)) (v1 : (c : Dev Cert.KernelBIdeal.nD) → Buf (Elt Ideal) ((c.tc : Thread Cert.KernelBIdeal.nD Cert.KernelBIdeal.τ).loc Cert.KernelBIdeal.main_v55_1)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v55_0) = v0 c
          ∧ r.2.mem ((c.tc : Thread Cert.KernelBIdeal.nD Cert.KernelBIdeal.τ).loc Cert.KernelBIdeal.main_v55_1) = v1 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v63) = v0 c
          ∧ r.2.mem ((c.tc : Thread Cert.ReferenceBIdeal.nD Cert.ReferenceBIdeal.τ).loc Cert.ReferenceBIdeal.main_v67) = v1 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
      ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)) →
    ∃ (v0 : (c : Dev Cert.KernelCIdeal.nD) → Buf (Elt Ideal) ((c.tc : Thread Cert.KernelCIdeal.nD Cert.KernelCIdeal.τ).loc Cert.KernelCIdeal.main_v55_0)) (v1 : (c : Dev Cert.KernelCIdeal.nD) → Buf (Elt Ideal) ((c.tc : Thread Cert.KernelCIdeal.nD Cert.KernelCIdeal.τ).loc Cert.KernelCIdeal.main_v55_1)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v55_0) = v0 c
          ∧ r.2.mem ((c.tc : Thread Cert.KernelCIdeal.nD Cert.KernelCIdeal.τ).loc Cert.KernelCIdeal.main_v55_1) = v1 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
          ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v63) = v0 c
          ∧ r.2.mem ((c.tc : Thread Cert.ReferenceCIdeal.nD Cert.ReferenceCIdeal.τ).loc Cert.ReferenceCIdeal.main_v67) = v1 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2)
          ∧ r.2.mem ((c.tc : Thread Cert.ReferenceCIdeal.nD Cert.ReferenceCIdeal.τ).loc Cert.ReferenceCIdeal.main_arg3) = m' ((c.tc : Thread Cert.ReferenceCIdeal.nD Cert.ReferenceCIdeal.τ).loc Cert.ReferenceCIdeal.main_arg3))

def Claim : Prop :=
  ∃ (hKernelA : Cert.KernelA.Facts) (hKernelAIdeal : Cert.KernelAIdeal.Facts) (hReferenceAIdeal : Cert.ReferenceAIdeal.Facts) (hKernelB : Cert.KernelB.Facts) (hKernelBIdeal : Cert.KernelBIdeal.Facts) (hReferenceBIdeal : Cert.ReferenceBIdeal.Facts) (hKernelC : Cert.KernelC.Facts) (hKernelCIdeal : Cert.KernelCIdeal.Facts) (hReferenceCIdeal : Cert.ReferenceCIdeal.Facts),
    quiescent_KernelA (hKernelA := hKernelA)
    ∧ quiescent_KernelAIdeal (hKernelAIdeal := hKernelAIdeal)
    ∧ quiescent_ReferenceAIdeal (hReferenceAIdeal := hReferenceAIdeal)
    ∧ quiescent_KernelB (hKernelB := hKernelB)
    ∧ quiescent_KernelBIdeal (hKernelBIdeal := hKernelBIdeal)
    ∧ quiescent_ReferenceBIdeal (hReferenceBIdeal := hReferenceBIdeal)
    ∧ quiescent_KernelC (hKernelC := hKernelC)
    ∧ quiescent_KernelCIdeal (hKernelCIdeal := hKernelCIdeal)
    ∧ quiescent_ReferenceCIdeal (hReferenceCIdeal := hReferenceCIdeal)
    ∧ preserves_KernelA_KernelAIdeal
    ∧ algebraic_KernelAIdeal_ReferenceAIdeal (hKernelAIdeal := hKernelAIdeal) (hReferenceAIdeal := hReferenceAIdeal)
    ∧ preserves_KernelB_KernelBIdeal
    ∧ algebraic_KernelBIdeal_ReferenceBIdeal (hKernelBIdeal := hKernelBIdeal) (hReferenceBIdeal := hReferenceBIdeal)
    ∧ preserves_KernelC_KernelCIdeal
    ∧ algebraic_KernelCIdeal_ReferenceCIdeal (hKernelCIdeal := hKernelCIdeal) (hReferenceCIdeal := hReferenceCIdeal)
-- ==== KernelA.lean ====
abbrev S1x2048x2048 : Shape := ⟨3, ![1, 2048, 2048]⟩
abbrev S2048x1024 : Shape := ⟨2, ![2048, 1024]⟩
abbrev S2048x64 : Shape := ⟨2, ![2048, 64]⟩
abbrev S2048x16 : Shape := ⟨2, ![2048, 16]⟩
abbrev S1x2048x1024 : Shape := ⟨3, ![1, 2048, 1024]⟩
abbrev S1x2048x16x64 : Shape := ⟨4, ![1, 2048, 16, 64]⟩
abbrev S1x2048x64 : Shape := ⟨3, ![1, 2048, 64]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S1x2048x1x16 : Shape := ⟨4, ![1, 2048, 1, 16]⟩
abbrev S1x2048x16x32 : Shape := ⟨4, ![1, 2048, 16, 32]⟩
abbrev S1x2048x16x16 : Shape := ⟨4, ![1, 2048, 16, 16]⟩
abbrev S1x2048x16 : Shape := ⟨3, ![1, 2048, 16]⟩
abbrev S1x2048x32 : Shape := ⟨3, ![1, 2048, 32]⟩
abbrev S1x2048x2048x16 : Shape := ⟨4, ![1, 2048, 2048, 16]⟩
abbrev S1x16x2048x2048 : Shape := ⟨4, ![1, 16, 2048, 2048]⟩
abbrev S4x512x128 : Shape := ⟨3, ![4, 512, 128]⟩
abbrev S1x16x128x512 : Shape := ⟨4, ![1, 16, 128, 512]⟩
abbrev S128x16 : Shape := ⟨2, ![128, 16]⟩
abbrev S1x512x128 : Shape := ⟨3, ![1, 512, 128]⟩
abbrev S8x128 : Shape := ⟨2, ![8, 128]⟩
abbrev S128x512 : Shape := ⟨2, ![128, 512]⟩
abbrev S1x1x128x512 : Shape := ⟨4, ![1, 1, 128, 512]⟩
abbrev S128x1 : Shape := ⟨2, ![128, 1]⟩
abbrev S512x128 : Shape := ⟨2, ![512, 128]⟩
abbrev S512x1 : Shape := ⟨2, ![512, 1]⟩
abbrev S511x128 : Shape := ⟨2, ![511, 128]⟩
abbrev S1x128 : Shape := ⟨2, ![1, 128]⟩
abbrev S510x128 : Shape := ⟨2, ![510, 128]⟩
abbrev S2x128 : Shape := ⟨2, ![2, 128]⟩
abbrev S508x128 : Shape := ⟨2, ![508, 128]⟩
abbrev S4x128 : Shape := ⟨2, ![4, 128]⟩
abbrev S32x2x8x128 : Shape := ⟨4, ![32, 2, 8, 128]⟩
abbrev S32x1x8x128 : Shape := ⟨4, ![32, 1, 8, 128]⟩
abbrev S32x8x128 : Shape := ⟨3, ![32, 8, 128]⟩
abbrev S32x1x1 : Shape := ⟨3, ![32, 1, 1]⟩
abbrev S16x2x16x128 : Shape := ⟨4, ![16, 2, 16, 128]⟩
abbrev S16x1x16x128 : Shape := ⟨4, ![16, 1, 16, 128]⟩
abbrev S16x16x128 : Shape := ⟨3, ![16, 16, 128]⟩
abbrev S16x1x1 : Shape := ⟨3, ![16, 1, 1]⟩
abbrev S8x2x32x128 : Shape := ⟨4, ![8, 2, 32, 128]⟩
abbrev S8x1x32x128 : Shape := ⟨4, ![8, 1, 32, 128]⟩
abbrev S8x32x128 : Shape := ⟨3, ![8, 32, 128]⟩
abbrev S8x1x1 : Shape := ⟨3, ![8, 1, 1]⟩
abbrev S4x2x64x128 : Shape := ⟨4, ![4, 2, 64, 128]⟩
abbrev S4x1x64x128 : Shape := ⟨4, ![4, 1, 64, 128]⟩
abbrev S4x64x128 : Shape := ⟨3, ![4, 64, 128]⟩
abbrev S4x1x1 : Shape := ⟨3, ![4, 1, 1]⟩
abbrev S2x2x128x128 : Shape := ⟨4, ![2, 2, 128, 128]⟩
abbrev S2x1x128x128 : Shape := ⟨4, ![2, 1, 128, 128]⟩
abbrev S2x128x128 : Shape := ⟨3, ![2, 128, 128]⟩
abbrev S2x1x1 : Shape := ⟨3, ![2, 1, 1]⟩
abbrev S1x2x256x128 : Shape := ⟨4, ![1, 2, 256, 128]⟩
abbrev S1x1x256x128 : Shape := ⟨4, ![1, 1, 256, 128]⟩
abbrev S1x256x128 : Shape := ⟨3, ![1, 256, 128]⟩
abbrev S1x1x1 : Shape := ⟨3, ![1, 1, 1]⟩

abbrev nBuf : Space → Nat
  | .hbm => 66
  | .vmem => 9
  | .smem => 0
  | _ => 0

abbrev bufTy : (tb : Table) → Fin (tcTables nBuf tb) → BufTy
  | .hbm, ⟨0, _⟩ => ⟨S1x2048x2048, .f32⟩
  | .hbm, ⟨1, _⟩ => ⟨S2048x1024, .f32⟩
  | .hbm, ⟨2, _⟩ => ⟨S2048x64, .f32⟩
  | .hbm, ⟨3, _⟩ => ⟨S2048x16, .f32⟩
  | .hbm, ⟨4, _⟩ => ⟨S1x2048x1024, .f32⟩
  | .hbm, ⟨5, _⟩ => ⟨S1x2048x16x64, .f32⟩
  | .hbm, ⟨6, _⟩ => ⟨S1x2048x64, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048, .f32⟩
  | .hbm, ⟨18, _⟩ => ⟨S2048x1, .f32⟩
  | .hbm, ⟨19, _⟩ => ⟨S1x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S1x2048x1x16, .f32⟩
  | .hbm, ⟨26, _⟩ => ⟨S1x2048x1x16, .f32⟩
  | .hbm, ⟨27, _⟩ => ⟨S1x2048x16x32, .f32⟩
  | .hbm, ⟨28, _⟩ => ⟨S1x2048x16x32, .f32⟩
  | .hbm, ⟨29, _⟩ => ⟨S1x2048x16x16, .f32⟩
  | .hbm, ⟨30, _⟩ => ⟨S1x2048x16x16, .f32⟩
  | .hbm, ⟨31, _⟩ => ⟨S1x2048x16x16, .f32⟩
  | .hbm, ⟨32, _⟩ => ⟨S1x2048x16x16, .f32⟩
  | .hbm, ⟨33, _⟩ => ⟨S1x2048x16x16, .f32⟩
  | .hbm, ⟨34, _⟩ => ⟨S1x2048x16x16, .f32⟩
  | .hbm, ⟨35, _⟩ => ⟨S1x2048x16x16, .f32⟩
  | .hbm, ⟨36, _⟩ => ⟨S1x2048x16x16, .f32⟩
  | .hbm, ⟨37, _⟩ => ⟨S1x2048x16x16, .f32⟩
  | .hbm, ⟨38, _⟩ => ⟨S1x2048x16x16, .f32⟩
  | .hbm, ⟨39, _⟩ => ⟨S1x2048x16x16, .f32⟩
  | .hbm, ⟨40, _⟩ => ⟨S1x2048x16x16, .f32⟩
  | .hbm, ⟨41, _⟩ => ⟨S1x2048x16x64, .f32⟩
  | .hbm, ⟨42, _⟩ => ⟨S1x2048x16, .f32⟩
  | .hbm, ⟨43, _⟩ => ⟨S1x2048x16, .f32⟩
  | .hbm, ⟨44, _⟩ => ⟨S1x2048x32, .f32⟩
  | .hbm, ⟨45, _⟩ => ⟨S1x2048x32, .f32⟩
  | .hbm, ⟨46, _⟩ => ⟨S1x2048x16, .f32⟩
  | .hbm, ⟨47, _⟩ => ⟨S1x2048x16, .f32⟩
  | .hbm, ⟨48, _⟩ => ⟨S1x2048x16, .f32⟩
  | .hbm, ⟨49, _⟩ => ⟨S1x2048x16, .f32⟩
  | .hbm, ⟨50, _⟩ => ⟨S1x2048x16, .f32⟩
  | .hbm, ⟨51, _⟩ => ⟨S1x2048x16, .f32⟩
  | .hbm, ⟨52, _⟩ => ⟨S1x2048x16, .f32⟩
  | .hbm, ⟨53, _⟩ => ⟨S1x2048x16, .f32⟩
  | .hbm, ⟨54, _⟩ => ⟨S1x2048x64, .f32⟩
  | .hbm, ⟨55, _⟩ => ⟨S1x2048x16, .f32⟩
  | .hbm, ⟨56, _⟩ => ⟨S1x2048x2048x16, .f32⟩
  | .hbm, ⟨57, _⟩ => ⟨S1x16x2048x2048, .f32⟩
  | .hbm, ⟨58, _⟩ => ⟨S_, .f32⟩
  | .hbm, ⟨59, _⟩ => ⟨S1x16x2048x2048, .f32⟩
  | .hbm, ⟨60, _⟩ => ⟨S1x16x2048x2048, .f32⟩
  | .hbm, ⟨61, _⟩ => ⟨S1x16x2048x2048, .bf16⟩
  | .hbm, ⟨62, _⟩ => ⟨S2048x16, .f32⟩
  | .hbm, ⟨63, _⟩ => ⟨S2048x16, .bf16⟩
  | .hbm, ⟨64, _⟩ => ⟨S4x512x128, .f32⟩
  | .hbm, ⟨65, _⟩ => ⟨S4x512x128, .i32⟩
  | .local _ .vmem, ⟨0, _⟩ => ⟨S1x16x128x512, .bf16⟩
  | .local _ .vmem, ⟨1, _⟩ => ⟨S1x16x128x512, .bf16⟩
  | .local _ .vmem, ⟨2, _⟩ => ⟨S128x16, .bf16⟩
  | .local _ .vmem, ⟨3, _⟩ => ⟨S128x16, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .i32⟩
  | .local _ .vmem, ⟨7, _⟩ => ⟨S1x512x128, .i32⟩
  | .local _ .vmem, ⟨8, _⟩ => ⟨S8x128, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_call0_cst : Ref sig .tc := ⟨.hbm, 58, rfl⟩
abbrev main_call0_v0 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55_0 : Ref sig .tc := ⟨.hbm, 64, rfl⟩
abbrev main_v55_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v0.toNat, c0_i32_2.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelAIdeal.lean ====
variable {F : FTy → Type} [FloatOps F] [Named F]
def κ : String → Option EReal := fun
  | "mask" => some ⊥
  | _ => none
-- ==== ReferenceAIdeal.lean ====
abbrev S1x2048x2048 : Shape := ⟨3, ![1, 2048, 2048]⟩
abbrev S2048x1024 : Shape := ⟨2, ![2048, 1024]⟩
abbrev S2048x64 : Shape := ⟨2, ![2048, 64]⟩
abbrev S2048x16 : Shape := ⟨2, ![2048, 16]⟩
abbrev S1x2048x1024 : Shape := ⟨3, ![1, 2048, 1024]⟩
abbrev S1x2048x16x64 : Shape := ⟨4, ![1, 2048, 16, 64]⟩
abbrev S1x2048x64 : Shape := ⟨3, ![1, 2048, 64]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S1x2048x1x16 : Shape := ⟨4, ![1, 2048, 1, 16]⟩
abbrev S1x2048x16x32 : Shape := ⟨4, ![1, 2048, 16, 32]⟩
abbrev S1x2048x16x16 : Shape := ⟨4, ![1, 2048, 16, 16]⟩
abbrev S1x2048x16 : Shape := ⟨3, ![1, 2048, 16]⟩
abbrev S1x2048x32 : Shape := ⟨3, ![1, 2048, 32]⟩
abbrev S1x2048x2048x16 : Shape := ⟨4, ![1, 2048, 2048, 16]⟩
abbrev S1x16x2048x2048 : Shape := ⟨4, ![1, 16, 2048, 2048]⟩
abbrev S2048x2048 : Shape := ⟨2, ![2048, 2048]⟩
abbrev S1x2048x512 : Shape := ⟨3, ![1, 2048, 512]⟩
abbrev S1x512x512 : Shape := ⟨3, ![1, 512, 512]⟩
abbrev S512x512 : Shape := ⟨2, ![512, 512]⟩
abbrev S4x128x512 : Shape := ⟨3, ![4, 128, 512]⟩
abbrev S4x512x128 : Shape := ⟨3, ![4, 512, 128]⟩

abbrev nBuf : Space → Nat
  | .hbm => 92
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x1024, .f32⟩
  | .hbm, ⟨2, _⟩ => ⟨S2048x64, .f32⟩
  | .hbm, ⟨3, _⟩ => ⟨S2048x16, .f32⟩
  | .hbm, ⟨4, _⟩ => ⟨S1x2048x1024, .f32⟩
  | .hbm, ⟨5, _⟩ => ⟨S1x2048x16x64, .f32⟩
  | .hbm, ⟨6, _⟩ => ⟨S1x2048x64, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048, .f32⟩
  | .hbm, ⟨18, _⟩ => ⟨S2048x1, .f32⟩
  | .hbm, ⟨19, _⟩ => ⟨S1x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S1x2048x1x16, .f32⟩
  | .hbm, ⟨26, _⟩ => ⟨S1x2048x1x16, .f32⟩
  | .hbm, ⟨27, _⟩ => ⟨S1x2048x16x32, .f32⟩
  | .hbm, ⟨28, _⟩ => ⟨S1x2048x16x32, .f32⟩
  | .hbm, ⟨29, _⟩ => ⟨S1x2048x16x16, .f32⟩
  | .hbm, ⟨30, _⟩ => ⟨S1x2048x16x16, .f32⟩
  | .hbm, ⟨31, _⟩ => ⟨S1x2048x16x16, .f32⟩
  | .hbm, ⟨32, _⟩ => ⟨S1x2048x16x16, .f32⟩
  | .hbm, ⟨33, _⟩ => ⟨S1x2048x16x16, .f32⟩
  | .hbm, ⟨34, _⟩ => ⟨S1x2048x16x16, .f32⟩
  | .hbm, ⟨35, _⟩ => ⟨S1x2048x16x16, .f32⟩
  | .hbm, ⟨36, _⟩ => ⟨S1x2048x16x16, .f32⟩
  | .hbm, ⟨37, _⟩ => ⟨S1x2048x16x16, .f32⟩
  | .hbm, ⟨38, _⟩ => ⟨S1x2048x16x16, .f32⟩
  | .hbm, ⟨39, _⟩ => ⟨S1x2048x16x16, .f32⟩
  | .hbm, ⟨40, _⟩ => ⟨S1x2048x16x16, .f32⟩
  | .hbm, ⟨41, _⟩ => ⟨S1x2048x16x64, .f32⟩
  | .hbm, ⟨42, _⟩ => ⟨S1x2048x16, .f32⟩
  | .hbm, ⟨43, _⟩ => ⟨S1x2048x16, .f32⟩
  | .hbm, ⟨44, _⟩ => ⟨S1x2048x32, .f32⟩
  | .hbm, ⟨45, _⟩ => ⟨S1x2048x32, .f32⟩
  | .hbm, ⟨46, _⟩ => ⟨S1x2048x16, .f32⟩
  | .hbm, ⟨47, _⟩ => ⟨S1x2048x16, .f32⟩
  | .hbm, ⟨48, _⟩ => ⟨S1x2048x16, .f32⟩
  | .hbm, ⟨49, _⟩ => ⟨S1x2048x16, .f32⟩
  | .hbm, ⟨50, _⟩ => ⟨S1x2048x16, .f32⟩
  | .hbm, ⟨51, _⟩ => ⟨S1x2048x16, .f32⟩
  | .hbm, ⟨52, _⟩ => ⟨S1x2048x16, .f32⟩
  | .hbm, ⟨53, _⟩ => ⟨S1x2048x16, .f32⟩
  | .hbm, ⟨54, _⟩ => ⟨S1x2048x64, .f32⟩
  | .hbm, ⟨55, _⟩ => ⟨S1x2048x16, .f32⟩
  | .hbm, ⟨56, _⟩ => ⟨S1x2048x2048x16, .f32⟩
  | .hbm, ⟨57, _⟩ => ⟨S1x16x2048x2048, .f32⟩
  | .hbm, ⟨58, _⟩ => ⟨S_, .f32⟩
  | .hbm, ⟨59, _⟩ => ⟨S1x16x2048x2048, .f32⟩
  | .hbm, ⟨60, _⟩ => ⟨S1x16x2048x2048, .f32⟩
  | .hbm, ⟨61, _⟩ => ⟨S1x2048x2048, .f32⟩
  | .hbm, ⟨62, _⟩ => ⟨S_, .f32⟩
  | .hbm, ⟨63, _⟩ => ⟨S_, .f32⟩
  | .hbm, ⟨64, _⟩ => ⟨S1x2048x2048, .f32⟩
  | .hbm, ⟨65, _⟩ => ⟨S1x2048x2048, .f32⟩
  | .hbm, ⟨66, _⟩ => ⟨S_, .i1⟩
  | .hbm, ⟨67, _⟩ => ⟨S2048x2048, .i1⟩
  | .hbm, ⟨68, _⟩ => ⟨S2048x2048, .i32⟩
  | .hbm, ⟨69, _⟩ => ⟨S_, .i32⟩
  | .hbm, ⟨70, _⟩ => ⟨S2048x2048, .i32⟩
  | .hbm, ⟨71, _⟩ => ⟨S2048x2048, .i32⟩
  | .hbm, ⟨72, _⟩ => ⟨S2048x2048, .i32⟩
  | .hbm, ⟨73, _⟩ => ⟨S2048x2048, .i1⟩
  | .hbm, ⟨74, _⟩ => ⟨S_, .i1⟩
  | .hbm, ⟨75, _⟩ => ⟨S2048x2048, .i1⟩
  | .hbm, ⟨76, _⟩ => ⟨S2048x2048, .i1⟩
  | .hbm, ⟨77, _⟩ => ⟨S1x2048x2048, .i1⟩
  | .hbm, ⟨78, _⟩ => ⟨S_, .f32⟩
  | .hbm, ⟨79, _⟩ => ⟨S_, .f32⟩
  | .hbm, ⟨80, _⟩ => ⟨S1x2048x2048, .f32⟩
  | .hbm, ⟨81, _⟩ => ⟨S1x2048x2048, .f32⟩
  | .hbm, ⟨82, _⟩ => ⟨S1x2048x512, .f32⟩
  | .hbm, ⟨83, _⟩ => ⟨S1x2048x512, .i32⟩
  | .hbm, ⟨84, _⟩ => ⟨S1x512x512, .f32⟩
  | .hbm, ⟨85, _⟩ => ⟨S512x512, .f32⟩
  | .hbm, ⟨86, _⟩ => ⟨S4x128x512, .f32⟩
  | .hbm, ⟨87, _⟩ => ⟨S4x512x128, .f32⟩
  | .hbm, ⟨88, _⟩ => ⟨S1x512x512, .i32⟩
  | .hbm, ⟨89, _⟩ => ⟨S512x512, .i32⟩
  | .hbm, ⟨90, _⟩ => ⟨S4x128x512, .i32⟩
  | .hbm, ⟨91, _⟩ => ⟨S4x512x128, .i32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_call0_cst : Ref sig .tc := ⟨.hbm, 58, rfl⟩
abbrev main_call0_v0 : Ref sig .tc := ⟨.hbm, 59, rfl⟩
abbrev main_v51 : Ref sig .tc := ⟨.hbm, 60, rfl⟩
abbrev main_v52 : Ref sig .tc := ⟨.hbm, 61, rfl⟩
abbrev main_cst_2 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_c : Ref sig .tc := ⟨.hbm, 66, rfl⟩
abbrev main_v56 : Ref sig .tc := ⟨.hbm, 67, rfl⟩
abbrev main_call1_v0 : Ref sig .tc := ⟨.hbm, 68, rfl⟩
abbrev main_call1_c : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_c_0 : Ref sig .tc := ⟨.hbm, 74, rfl⟩
abbrev main_call1_v5 : Ref sig .tc := ⟨.hbm, 75, rfl⟩
abbrev main_v57 : Ref sig .tc := ⟨.hbm, 76, rfl⟩
abbrev main_v58 : Ref sig .tc := ⟨.hbm, 77, rfl⟩
abbrev main_cst_3 : Ref sig .tc := ⟨.hbm, 78, rfl⟩
abbrev main_call2_v0 : Ref sig .tc := ⟨.hbm, 79, rfl⟩
abbrev main_call2_v1 : Ref sig .tc := ⟨.hbm, 80, rfl⟩
abbrev main_v59 : Ref sig .tc := ⟨.hbm, 81, rfl⟩
abbrev main_values : Ref sig .tc := ⟨.hbm, 82, rfl⟩
abbrev main_indices : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== KernelB.lean ====
abbrev S1x2048x2048 : Shape := ⟨3, ![1, 2048, 2048]⟩
abbrev S2048x1024 : Shape := ⟨2, ![2048, 1024]⟩
abbrev S2048x64 : Shape := ⟨2, ![2048, 64]⟩
abbrev S2048x16 : Shape := ⟨2, ![2048, 16]⟩
abbrev S1x2048x1024 : Shape := ⟨3, ![1, 2048, 1024]⟩
abbrev S1x2048x16x64 : Shape := ⟨4, ![1, 2048, 16, 64]⟩
abbrev S1x2048x64 : Shape := ⟨3, ![1, 2048, 64]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S1x2048x1x16 : Shape := ⟨4, ![1, 2048, 1, 16]⟩
abbrev S1x2048x16x32 : Shape := ⟨4, ![1, 2048, 16, 32]⟩
abbrev S1x2048x16x16 : Shape := ⟨4, ![1, 2048, 16, 16]⟩
abbrev S1x2048x16 : Shape := ⟨3, ![1, 2048, 16]⟩
abbrev S1x2048x32 : Shape := ⟨3, ![1, 2048, 32]⟩
abbrev S1x2048x2048x16 : Shape := ⟨4, ![1, 2048, 2048, 16]⟩
abbrev S1x16x2048x2048 : Shape := ⟨4, ![1, 16, 2048, 2048]⟩
abbrev S4x512x128 : Shape := ⟨3, ![4, 512, 128]⟩
abbrev S1x16x128x1024 : Shape := ⟨4, ![1, 16, 128, 1024]⟩
abbrev S128x16 : Shape := ⟨2, ![128, 16]⟩
abbrev S1x512x128 : Shape := ⟨3, ![1, 512, 128]⟩
abbrev S8x128 : Shape := ⟨2, ![8, 128]⟩
abbrev S128x1024 : Shape := ⟨2, ![128, 1024]⟩
abbrev S1x1x128x1024 : Shape := ⟨4, ![1, 1, 128, 1024]⟩
abbrev S128x1 : Shape := ⟨2, ![128, 1]⟩
abbrev S1024x128 : Shape := ⟨2, ![1024, 128]⟩
abbrev S1024x1 : Shape := ⟨2, ![1024, 1]⟩
abbrev S1023x128 : Shape := ⟨2, ![1023, 128]⟩
abbrev S1x128 : Shape := ⟨2, ![1, 128]⟩
abbrev S1022x128 : Shape := ⟨2, ![1022, 128]⟩
abbrev S2x128 : Shape := ⟨2, ![2, 128]⟩
abbrev S1020x128 : Shape := ⟨2, ![1020, 128]⟩
abbrev S4x128 : Shape := ⟨2, ![4, 128]⟩
abbrev S64x2x8x128 : Shape := ⟨4, ![64, 2, 8, 128]⟩
abbrev S64x1x8x128 : Shape := ⟨4, ![64, 1, 8, 128]⟩
abbrev S64x8x128 : Shape := ⟨3, ![64, 8, 128]⟩
abbrev S64x1x1 : Shape := ⟨3, ![64, 1, 1]⟩
abbrev S32x2x16x128 : Shape := ⟨4, ![32, 2, 16, 128]⟩
abbrev S32x1x16x128 : Shape := ⟨4, ![32, 1, 16, 128]⟩
abbrev S32x16x128 : Shape := ⟨3, ![32, 16, 128]⟩
abbrev S32x1x1 : Shape := ⟨3, ![32, 1, 1]⟩
abbrev S16x2x32x128 : Shape := ⟨4, ![16, 2, 32, 128]⟩
abbrev S16x1x32x128 : Shape := ⟨4, ![16, 1, 32, 128]⟩
abbrev S16x32x128 : Shape := ⟨3, ![16, 32, 128]⟩
abbrev S16x1x1 : Shape := ⟨3, ![16, 1, 1]⟩
abbrev S8x2x64x128 : Shape := ⟨4, ![8, 2, 64, 128]⟩
abbrev S8x1x64x128 : Shape := ⟨4, ![8, 1, 64, 128]⟩
abbrev S8x64x128 : Shape := ⟨3, ![8, 64, 128]⟩
abbrev S8x1x1 : Shape := ⟨3, ![8, 1, 1]⟩
abbrev S4x2x128x128 : Shape := ⟨4, ![4, 2, 128, 128]⟩
abbrev S4x1x128x128 : Shape := ⟨4, ![4, 1, 128, 128]⟩
abbrev S4x128x128 : Shape := ⟨3, ![4, 128, 128]⟩
abbrev S4x1x1 : Shape := ⟨3, ![4, 1, 1]⟩
abbrev S2x2x256x128 : Shape := ⟨4, ![2, 2, 256, 128]⟩
abbrev S2x1x256x128 : Shape := ⟨4, ![2, 1, 256, 128]⟩
abbrev S2x256x128 : Shape := ⟨3, ![2, 256, 128]⟩
abbrev S2x1x1 : Shape := ⟨3, ![2, 1, 1]⟩
abbrev S1x2x512x128 : Shape := ⟨4, ![1, 2, 512, 128]⟩
abbrev S1x1x512x128 : Shape := ⟨4, ![1, 1, 512, 128]⟩
abbrev S1x1x1 : Shape := ⟨3, ![1, 1, 1]⟩
abbrev S512x128 : Shape := ⟨2, ![512, 128]⟩
abbrev S1x2x256x128 : Shape := ⟨4, ![1, 2, 256, 128]⟩
abbrev S1x1x256x128 : Shape := ⟨4, ![1, 1, 256, 128]⟩
abbrev S1x256x128 : Shape := ⟨3, ![1, 256, 128]⟩
abbrev S2x2x128x128 : Shape := ⟨4, ![2, 2, 128, 128]⟩
abbrev S2x1x128x128 : Shape := ⟨4, ![2, 1, 128, 128]⟩
abbrev S2x128x128 : Shape := ⟨3, ![2, 128, 128]⟩
abbrev S4x2x64x128 : Shape := ⟨4, ![4, 2, 64, 128]⟩
abbrev S4x1x64x128 : Shape := ⟨4, ![4, 1, 64, 128]⟩
abbrev S4x64x128 : Shape := ⟨3, ![4, 64, 128]⟩
abbrev S8x2x32x128 : Shape := ⟨4, ![8, 2, 32, 128]⟩
abbrev S8x1x32x128 : Shape := ⟨4, ![8, 1, 32, 128]⟩
abbrev S8x32x128 : Shape := ⟨3, ![8, 32, 128]⟩
abbrev S16x2x16x128 : Shape := ⟨4, ![16, 2, 16, 128]⟩
abbrev S16x1x16x128 : Shape := ⟨4, ![16, 1, 16, 128]⟩
abbrev S16x16x128 : Shape := ⟨3, ![16, 16, 128]⟩
abbrev S32x2x8x128 : Shape := ⟨4, ![32, 2, 8, 128]⟩
abbrev S32x1x8x128 : Shape := ⟨4, ![32, 1, 8, 128]⟩
abbrev S32x8x128 : Shape := ⟨3, ![32, 8, 128]⟩
abbrev S512x1 : Shape := ⟨2, ![512, 1]⟩
abbrev S508x128 : Shape := ⟨2, ![508, 128]⟩
abbrev S510x128 : Shape := ⟨2, ![510, 128]⟩
abbrev S511x128 : Shape := ⟨2, ![511, 128]⟩

abbrev nBuf : Space → Nat
  | .hbm => 66
  | .vmem => 9
  | .smem => 0
  | _ => 0

abbrev bufTy : (tb : Table) → Fin (tcTables nBuf tb) → BufTy
  | .hbm, ⟨0, _⟩ => ⟨S1x2048x2048, .f32⟩
  | .hbm, ⟨1, _⟩ => ⟨S2048x1024, .f32⟩
  | .hbm, ⟨2, _⟩ => ⟨S2048x64, .f32⟩
  | .hbm, ⟨3, _⟩ => ⟨S2048x16, .f32⟩
  | .hbm, ⟨4, _⟩ => ⟨S1x2048x1024, .f32⟩
  | .hbm, ⟨5, _⟩ => ⟨S1x2048x16x64, .f32⟩
  | .hbm, ⟨6, _⟩ => ⟨S1x2048x64, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048, .f32⟩
  | .hbm, ⟨18, _⟩ => ⟨S2048x1, .f32⟩
  | .hbm, ⟨19, _⟩ => ⟨S1x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S1x2048x1x16, .f32⟩
  | .hbm, ⟨26, _⟩ => ⟨S1x2048x1x16, .f32⟩
  | .hbm, ⟨27, _⟩ => ⟨S1x2048x16x32, .f32⟩
  | .hbm, ⟨28, _⟩ => ⟨S1x2048x16x32, .f32⟩
  | .hbm, ⟨29, _⟩ => ⟨S1x2048x16x16, .f32⟩
  | .hbm, ⟨30, _⟩ => ⟨S1x2048x16x16, .f32⟩
  | .hbm, ⟨31, _⟩ => ⟨S1x2048x16x16, .f32⟩
  | .hbm, ⟨32, _⟩ => ⟨S1x2048x16x16, .f32⟩
  | .hbm, ⟨33, _⟩ => ⟨S1x2048x16x16, .f32⟩
  | .hbm, ⟨34, _⟩ => ⟨S1x2048x16x16, .f32⟩
  | .hbm, ⟨35, _⟩ => ⟨S1x2048x16x16, .f32⟩
  | .hbm, ⟨36, _⟩ => ⟨S1x2048x16x16, .f32⟩
  | .hbm, ⟨37, _⟩ => ⟨S1x2048x16x16, .f32⟩
  | .hbm, ⟨38, _⟩ => ⟨S1x2048x16x16, .f32⟩
  | .hbm, ⟨39, _⟩ => ⟨S1x2048x16x16, .f32⟩
  | .hbm, ⟨40, _⟩ => ⟨S1x2048x16x16, .f32⟩
  | .hbm, ⟨41, _⟩ => ⟨S1x2048x16x64, .f32⟩
  | .hbm, ⟨42, _⟩ => ⟨S1x2048x16, .f32⟩
  | .hbm, ⟨43, _⟩ => ⟨S1x2048x16, .f32⟩
  | .hbm, ⟨44, _⟩ => ⟨S1x2048x32, .f32⟩
  | .hbm, ⟨45, _⟩ => ⟨S1x2048x32, .f32⟩
  | .hbm, ⟨46, _⟩ => ⟨S1x2048x16, .f32⟩
  | .hbm, ⟨47, _⟩ => ⟨S1x2048x16, .f32⟩
  | .hbm, ⟨48, _⟩ => ⟨S1x2048x16, .f32⟩
  | .hbm, ⟨49, _⟩ => ⟨S1x2048x16, .f32⟩
  | .hbm, ⟨50, _⟩ => ⟨S1x2048x16, .f32⟩
  | .hbm, ⟨51, _⟩ => ⟨S1x2048x16, .f32⟩
  | .hbm, ⟨52, _⟩ => ⟨S1x2048x16, .f32⟩
  | .hbm, ⟨53, _⟩ => ⟨S1x2048x16, .f32⟩
  | .hbm, ⟨54, _⟩ => ⟨S1x2048x64, .f32⟩
  | .hbm, ⟨55, _⟩ => ⟨S1x2048x16, .f32⟩
  | .hbm, ⟨56, _⟩ => ⟨S1x2048x2048x16, .f32⟩
  | .hbm, ⟨57, _⟩ => ⟨S1x16x2048x2048, .f32⟩
  | .hbm, ⟨58, _⟩ => ⟨S_, .f32⟩
  | .hbm, ⟨59, _⟩ => ⟨S1x16x2048x2048, .f32⟩
  | .hbm, ⟨60, _⟩ => ⟨S1x16x2048x2048, .f32⟩
  | .hbm, ⟨61, _⟩ => ⟨S1x16x2048x2048, .bf16⟩
  | .hbm, ⟨62, _⟩ => ⟨S2048x16, .f32⟩
  | .hbm, ⟨63, _⟩ => ⟨S2048x16, .bf16⟩
  | .hbm, ⟨64, _⟩ => ⟨S4x512x128, .f32⟩
  | .hbm, ⟨65, _⟩ => ⟨S4x512x128, .i32⟩
  | .local _ .vmem, ⟨0, _⟩ => ⟨S1x16x128x1024, .bf16⟩
  | .local _ .vmem, ⟨1, _⟩ => ⟨S1x16x128x1024, .bf16⟩
  | .local _ .vmem, ⟨2, _⟩ => ⟨S128x16, .bf16⟩
  | .local _ .vmem, ⟨3, _⟩ => ⟨S128x16, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .i32⟩
  | .local _ .vmem, ⟨7, _⟩ => ⟨S1x512x128, .i32⟩
  | .local _ .vmem, ⟨8, _⟩ => ⟨S8x128, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_call0_cst : Ref sig .tc := ⟨.hbm, 58, rfl⟩
abbrev main_call0_v0 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55_0 : Ref sig .tc := ⟨.hbm, 64, rfl⟩
abbrev main_v55_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelBIdeal.lean ====
variable {F : FTy → Type} [FloatOps F] [Named F]
def κ : String → Option EReal := fun
  | "mask" => some ⊥
  | _ => none
-- ==== ReferenceBIdeal.lean ====
abbrev S1x2048x2048 : Shape := ⟨3, ![1, 2048, 2048]⟩
abbrev S2048x1024 : Shape := ⟨2, ![2048, 1024]⟩
abbrev S2048x64 : Shape := ⟨2, ![2048, 64]⟩
abbrev S2048x16 : Shape := ⟨2, ![2048, 16]⟩
abbrev S1x2048x1024 : Shape := ⟨3, ![1, 2048, 1024]⟩
abbrev S1x2048x16x64 : Shape := ⟨4, ![1, 2048, 16, 64]⟩
abbrev S1x2048x64 : Shape := ⟨3, ![1, 2048, 64]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S1x2048x1x16 : Shape := ⟨4, ![1, 2048, 1, 16]⟩
abbrev S1x2048x16x32 : Shape := ⟨4, ![1, 2048, 16, 32]⟩
abbrev S1x2048x16x16 : Shape := ⟨4, ![1, 2048, 16, 16]⟩
abbrev S1x2048x16 : Shape := ⟨3, ![1, 2048, 16]⟩
abbrev S1x2048x32 : Shape := ⟨3, ![1, 2048, 32]⟩
abbrev S1x2048x2048x16 : Shape := ⟨4, ![1, 2048, 2048, 16]⟩
abbrev S1x16x2048x2048 : Shape := ⟨4, ![1, 16, 2048, 2048]⟩
abbrev S2048x2048 : Shape := ⟨2, ![2048, 2048]⟩
abbrev S1x2048x512 : Shape := ⟨3, ![1, 2048, 512]⟩
abbrev S1x512x512 : Shape := ⟨3, ![1, 512, 512]⟩
abbrev S512x512 : Shape := ⟨2, ![512, 512]⟩
abbrev S4x128x512 : Shape := ⟨3, ![4, 128, 512]⟩
abbrev S4x512x128 : Shape := ⟨3, ![4, 512, 128]⟩

abbrev nBuf : Space → Nat
  | .hbm => 92
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x1024, .f32⟩
  | .hbm, ⟨2, _⟩ => ⟨S2048x64, .f32⟩
  | .hbm, ⟨3, _⟩ => ⟨S2048x16, .f32⟩
  | .hbm, ⟨4, _⟩ => ⟨S1x2048x1024, .f32⟩
  | .hbm, ⟨5, _⟩ => ⟨S1x2048x16x64, .f32⟩
  | .hbm, ⟨6, _⟩ => ⟨S1x2048x64, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048, .f32⟩
  | .hbm, ⟨18, _⟩ => ⟨S2048x1, .f32⟩
  | .hbm, ⟨19, _⟩ => ⟨S1x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S1x2048x1x16, .f32⟩
  | .hbm, ⟨26, _⟩ => ⟨S1x2048x1x16, .f32⟩
  | .hbm, ⟨27, _⟩ => ⟨S1x2048x16x32, .f32⟩
  | .hbm, ⟨28, _⟩ => ⟨S1x2048x16x32, .f32⟩
  | .hbm, ⟨29, _⟩ => ⟨S1x2048x16x16, .f32⟩
  | .hbm, ⟨30, _⟩ => ⟨S1x2048x16x16, .f32⟩
  | .hbm, ⟨31, _⟩ => ⟨S1x2048x16x16, .f32⟩
  | .hbm, ⟨32, _⟩ => ⟨S1x2048x16x16, .f32⟩
  | .hbm, ⟨33, _⟩ => ⟨S1x2048x16x16, .f32⟩
  | .hbm, ⟨34, _⟩ => ⟨S1x2048x16x16, .f32⟩
  | .hbm, ⟨35, _⟩ => ⟨S1x2048x16x16, .f32⟩
  | .hbm, ⟨36, _⟩ => ⟨S1x2048x16x16, .f32⟩
  | .hbm, ⟨37, _⟩ => ⟨S1x2048x16x16, .f32⟩
  | .hbm, ⟨38, _⟩ => ⟨S1x2048x16x16, .f32⟩
  | .hbm, ⟨39, _⟩ => ⟨S1x2048x16x16, .f32⟩
  | .hbm, ⟨40, _⟩ => ⟨S1x2048x16x16, .f32⟩
  | .hbm, ⟨41, _⟩ => ⟨S1x2048x16x64, .f32⟩
  | .hbm, ⟨42, _⟩ => ⟨S1x2048x16, .f32⟩
  | .hbm, ⟨43, _⟩ => ⟨S1x2048x16, .f32⟩
  | .hbm, ⟨44, _⟩ => ⟨S1x2048x32, .f32⟩
  | .hbm, ⟨45, _⟩ => ⟨S1x2048x32, .f32⟩
  | .hbm, ⟨46, _⟩ => ⟨S1x2048x16, .f32⟩
  | .hbm, ⟨47, _⟩ => ⟨S1x2048x16, .f32⟩
  | .hbm, ⟨48, _⟩ => ⟨S1x2048x16, .f32⟩
  | .hbm, ⟨49, _⟩ => ⟨S1x2048x16, .f32⟩
  | .hbm, ⟨50, _⟩ => ⟨S1x2048x16, .f32⟩
  | .hbm, ⟨51, _⟩ => ⟨S1x2048x16, .f32⟩
  | .hbm, ⟨52, _⟩ => ⟨S1x2048x16, .f32⟩
  | .hbm, ⟨53, _⟩ => ⟨S1x2048x16, .f32⟩
  | .hbm, ⟨54, _⟩ => ⟨S1x2048x64, .f32⟩
  | .hbm, ⟨55, _⟩ => ⟨S1x2048x16, .f32⟩
  | .hbm, ⟨56, _⟩ => ⟨S1x2048x2048x16, .f32⟩
  | .hbm, ⟨57, _⟩ => ⟨S1x16x2048x2048, .f32⟩
  | .hbm, ⟨58, _⟩ => ⟨S_, .f32⟩
  | .hbm, ⟨59, _⟩ => ⟨S1x16x2048x2048, .f32⟩
  | .hbm, ⟨60, _⟩ => ⟨S1x16x2048x2048, .f32⟩
  | .hbm, ⟨61, _⟩ => ⟨S1x2048x2048, .f32⟩
  | .hbm, ⟨62, _⟩ => ⟨S_, .f32⟩
  | .hbm, ⟨63, _⟩ => ⟨S_, .f32⟩
  | .hbm, ⟨64, _⟩ => ⟨S1x2048x2048, .f32⟩
  | .hbm, ⟨65, _⟩ => ⟨S1x2048x2048, .f32⟩
  | .hbm, ⟨66, _⟩ => ⟨S_, .i1⟩
  | .hbm, ⟨67, _⟩ => ⟨S2048x2048, .i1⟩
  | .hbm, ⟨68, _⟩ => ⟨S2048x2048, .i32⟩
  | .hbm, ⟨69, _⟩ => ⟨S_, .i32⟩
  | .hbm, ⟨70, _⟩ => ⟨S2048x2048, .i32⟩
  | .hbm, ⟨71, _⟩ => ⟨S2048x2048, .i32⟩
  | .hbm, ⟨72, _⟩ => ⟨S2048x2048, .i32⟩
  | .hbm, ⟨73, _⟩ => ⟨S2048x2048, .i1⟩
  | .hbm, ⟨74, _⟩ => ⟨S_, .i1⟩
  | .hbm, ⟨75, _⟩ => ⟨S2048x2048, .i1⟩
  | .hbm, ⟨76, _⟩ => ⟨S2048x2048, .i1⟩
  | .hbm, ⟨77, _⟩ => ⟨S1x2048x2048, .i1⟩
  | .hbm, ⟨78, _⟩ => ⟨S_, .f32⟩
  | .hbm, ⟨79, _⟩ => ⟨S_, .f32⟩
  | .hbm, ⟨80, _⟩ => ⟨S1x2048x2048, .f32⟩
  | .hbm, ⟨81, _⟩ => ⟨S1x2048x2048, .f32⟩
  | .hbm, ⟨82, _⟩ => ⟨S1x2048x512, .f32⟩
  | .hbm, ⟨83, _⟩ => ⟨S1x2048x512, .i32⟩
  | .hbm, ⟨84, _⟩ => ⟨S1x512x512, .f32⟩
  | .hbm, ⟨85, _⟩ => ⟨S512x512, .f32⟩
  | .hbm, ⟨86, _⟩ => ⟨S4x128x512, .f32⟩
  | .hbm, ⟨87, _⟩ => ⟨S4x512x128, .f32⟩
  | .hbm, ⟨88, _⟩ => ⟨S1x512x512, .i32⟩
  | .hbm, ⟨89, _⟩ => ⟨S512x512, .i32⟩
  | .hbm, ⟨90, _⟩ => ⟨S4x128x512, .i32⟩
  | .hbm, ⟨91, _⟩ => ⟨S4x512x128, .i32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_call0_cst : Ref sig .tc := ⟨.hbm, 58, rfl⟩
abbrev main_call0_v0 : Ref sig .tc := ⟨.hbm, 59, rfl⟩
abbrev main_v51 : Ref sig .tc := ⟨.hbm, 60, rfl⟩
abbrev main_v52 : Ref sig .tc := ⟨.hbm, 61, rfl⟩
abbrev main_cst_2 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_c : Ref sig .tc := ⟨.hbm, 66, rfl⟩
abbrev main_v56 : Ref sig .tc := ⟨.hbm, 67, rfl⟩
abbrev main_call1_v0 : Ref sig .tc := ⟨.hbm, 68, rfl⟩
abbrev main_call1_c : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_c_0 : Ref sig .tc := ⟨.hbm, 74, rfl⟩
abbrev main_call1_v5 : Ref sig .tc := ⟨.hbm, 75, rfl⟩
abbrev main_v57 : Ref sig .tc := ⟨.hbm, 76, rfl⟩
abbrev main_v58 : Ref sig .tc := ⟨.hbm, 77, rfl⟩
abbrev main_cst_3 : Ref sig .tc := ⟨.hbm, 78, rfl⟩
abbrev main_call2_v0 : Ref sig .tc := ⟨.hbm, 79, rfl⟩
abbrev main_call2_v1 : Ref sig .tc := ⟨.hbm, 80, rfl⟩
abbrev main_v59 : Ref sig .tc := ⟨.hbm, 81, rfl⟩
abbrev main_values : Ref sig .tc := ⟨.hbm, 82, rfl⟩
abbrev main_indices : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== KernelC.lean ====
abbrev S1x2048x2048 : Shape := ⟨3, ![1, 2048, 2048]⟩
abbrev S2048x1024 : Shape := ⟨2, ![2048, 1024]⟩
abbrev S2048x64 : Shape := ⟨2, ![2048, 64]⟩
abbrev S2048x16 : Shape := ⟨2, ![2048, 16]⟩
abbrev S1x2048x1024 : Shape := ⟨3, ![1, 2048, 1024]⟩
abbrev S1x2048x16x64 : Shape := ⟨4, ![1, 2048, 16, 64]⟩
abbrev S1x2048x64 : Shape := ⟨3, ![1, 2048, 64]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S1x2048x1x16 : Shape := ⟨4, ![1, 2048, 1, 16]⟩
abbrev S1x2048x16x32 : Shape := ⟨4, ![1, 2048, 16, 32]⟩
abbrev S1x2048x16x16 : Shape := ⟨4, ![1, 2048, 16, 16]⟩
abbrev S1x2048x16 : Shape := ⟨3, ![1, 2048, 16]⟩
abbrev S1x2048x32 : Shape := ⟨3, ![1, 2048, 32]⟩
abbrev S1x2048x2048x16 : Shape := ⟨4, ![1, 2048, 2048, 16]⟩
abbrev S1x16x2048x2048 : Shape := ⟨4, ![1, 16, 2048, 2048]⟩
abbrev S8x512x128 : Shape := ⟨3, ![8, 512, 128]⟩
abbrev S1x16x128x2048 : Shape := ⟨4, ![1, 16, 128, 2048]⟩
abbrev S128x16 : Shape := ⟨2, ![128, 16]⟩
abbrev S1x512x128 : Shape := ⟨3, ![1, 512, 128]⟩
abbrev S8x128 : Shape := ⟨2, ![8, 128]⟩
abbrev S128x2048 : Shape := ⟨2, ![128, 2048]⟩
abbrev S1x1x128x2048 : Shape := ⟨4, ![1, 1, 128, 2048]⟩
abbrev S128x1 : Shape := ⟨2, ![128, 1]⟩
abbrev S2048x128 : Shape := ⟨2, ![2048, 128]⟩
abbrev S2047x128 : Shape := ⟨2, ![2047, 128]⟩
abbrev S1x128 : Shape := ⟨2, ![1, 128]⟩
abbrev S2046x128 : Shape := ⟨2, ![2046, 128]⟩
abbrev S2x128 : Shape := ⟨2, ![2, 128]⟩
abbrev S2044x128 : Shape := ⟨2, ![2044, 128]⟩
abbrev S4x128 : Shape := ⟨2, ![4, 128]⟩
abbrev S128x2x8x128 : Shape := ⟨4, ![128, 2, 8, 128]⟩
abbrev S128x1x8x128 : Shape := ⟨4, ![128, 1, 8, 128]⟩
abbrev S128x8x128 : Shape := ⟨3, ![128, 8, 128]⟩
abbrev S128x1x1 : Shape := ⟨3, ![128, 1, 1]⟩
abbrev S64x2x16x128 : Shape := ⟨4, ![64, 2, 16, 128]⟩
abbrev S64x1x16x128 : Shape := ⟨4, ![64, 1, 16, 128]⟩
abbrev S64x16x128 : Shape := ⟨3, ![64, 16, 128]⟩
abbrev S64x1x1 : Shape := ⟨3, ![64, 1, 1]⟩
abbrev S32x2x32x128 : Shape := ⟨4, ![32, 2, 32, 128]⟩
abbrev S32x1x32x128 : Shape := ⟨4, ![32, 1, 32, 128]⟩
abbrev S32x32x128 : Shape := ⟨3, ![32, 32, 128]⟩
abbrev S32x1x1 : Shape := ⟨3, ![32, 1, 1]⟩
abbrev S16x2x64x128 : Shape := ⟨4, ![16, 2, 64, 128]⟩
abbrev S16x1x64x128 : Shape := ⟨4, ![16, 1, 64, 128]⟩
abbrev S16x64x128 : Shape := ⟨3, ![16, 64, 128]⟩
abbrev S16x1x1 : Shape := ⟨3, ![16, 1, 1]⟩
abbrev S8x2x128x128 : Shape := ⟨4, ![8, 2, 128, 128]⟩
abbrev S8x1x128x128 : Shape := ⟨4, ![8, 1, 128, 128]⟩
abbrev S8x128x128 : Shape := ⟨3, ![8, 128, 128]⟩
abbrev S8x1x1 : Shape := ⟨3, ![8, 1, 1]⟩
abbrev S4x2x256x128 : Shape := ⟨4, ![4, 2, 256, 128]⟩
abbrev S4x1x256x128 : Shape := ⟨4, ![4, 1, 256, 128]⟩
abbrev S4x256x128 : Shape := ⟨3, ![4, 256, 128]⟩
abbrev S4x1x1 : Shape := ⟨3, ![4, 1, 1]⟩
abbrev S2x2x512x128 : Shape := ⟨4, ![2, 2, 512, 128]⟩
abbrev S2x1x512x128 : Shape := ⟨4, ![2, 1, 512, 128]⟩
abbrev S2x512x128 : Shape := ⟨3, ![2, 512, 128]⟩
abbrev S2x1x1 : Shape := ⟨3, ![2, 1, 1]⟩
abbrev S512x128 : Shape := ⟨2, ![512, 128]⟩
abbrev S1024x128 : Shape := ⟨2, ![1024, 128]⟩
abbrev S2x2x256x128 : Shape := ⟨4, ![2, 2, 256, 128]⟩
abbrev S2x1x256x128 : Shape := ⟨4, ![2, 1, 256, 128]⟩
abbrev S2x256x128 : Shape := ⟨3, ![2, 256, 128]⟩
abbrev S4x2x128x128 : Shape := ⟨4, ![4, 2, 128, 128]⟩
abbrev S4x1x128x128 : Shape := ⟨4, ![4, 1, 128, 128]⟩
abbrev S4x128x128 : Shape := ⟨3, ![4, 128, 128]⟩
abbrev S8x2x64x128 : Shape := ⟨4, ![8, 2, 64, 128]⟩
abbrev S8x1x64x128 : Shape := ⟨4, ![8, 1, 64, 128]⟩
abbrev S8x64x128 : Shape := ⟨3, ![8, 64, 128]⟩
abbrev S16x2x32x128 : Shape := ⟨4, ![16, 2, 32, 128]⟩
abbrev S16x1x32x128 : Shape := ⟨4, ![16, 1, 32, 128]⟩
abbrev S16x32x128 : Shape := ⟨3, ![16, 32, 128]⟩
abbrev S32x2x16x128 : Shape := ⟨4, ![32, 2, 16, 128]⟩
abbrev S32x1x16x128 : Shape := ⟨4, ![32, 1, 16, 128]⟩
abbrev S32x16x128 : Shape := ⟨3, ![32, 16, 128]⟩
abbrev S64x2x8x128 : Shape := ⟨4, ![64, 2, 8, 128]⟩
abbrev S64x1x8x128 : Shape := ⟨4, ![64, 1, 8, 128]⟩
abbrev S64x8x128 : Shape := ⟨3, ![64, 8, 128]⟩
abbrev S1024x1 : Shape := ⟨2, ![1024, 1]⟩
abbrev S1020x128 : Shape := ⟨2, ![1020, 128]⟩
abbrev S1022x128 : Shape := ⟨2, ![1022, 128]⟩
abbrev S1023x128 : Shape := ⟨2, ![1023, 128]⟩
abbrev S1x2x512x128 : Shape := ⟨4, ![1, 2, 512, 128]⟩
abbrev S1x1x512x128 : Shape := ⟨4, ![1, 1, 512, 128]⟩
abbrev S1x1x1 : Shape := ⟨3, ![1, 1, 1]⟩
abbrev S1x2x256x128 : Shape := ⟨4, ![1, 2, 256, 128]⟩
abbrev S1x1x256x128 : Shape := ⟨4, ![1, 1, 256, 128]⟩
abbrev S1x256x128 : Shape := ⟨3, ![1, 256, 128]⟩
abbrev S2x2x128x128 : Shape := ⟨4, ![2, 2, 128, 128]⟩
abbrev S2x1x128x128 : Shape := ⟨4, ![2, 1, 128, 128]⟩
abbrev S2x128x128 : Shape := ⟨3, ![2, 128, 128]⟩
abbrev S4x2x64x128 : Shape := ⟨4, ![4, 2, 64, 128]⟩
abbrev S4x1x64x128 : Shape := ⟨4, ![4, 1, 64, 128]⟩
abbrev S4x64x128 : Shape := ⟨3, ![4, 64, 128]⟩
abbrev S8x2x32x128 : Shape := ⟨4, ![8, 2, 32, 128]⟩
abbrev S8x1x32x128 : Shape := ⟨4, ![8, 1, 32, 128]⟩
abbrev S8x32x128 : Shape := ⟨3, ![8, 32, 128]⟩
abbrev S16x2x16x128 : Shape := ⟨4, ![16, 2, 16, 128]⟩
abbrev S16x1x16x128 : Shape := ⟨4, ![16, 1, 16, 128]⟩
abbrev S16x16x128 : Shape := ⟨3, ![16, 16, 128]⟩
abbrev S32x2x8x128 : Shape := ⟨4, ![32, 2, 8, 128]⟩
abbrev S32x1x8x128 : Shape := ⟨4, ![32, 1, 8, 128]⟩
abbrev S32x8x128 : Shape := ⟨3, ![32, 8, 128]⟩
abbrev S512x1 : Shape := ⟨2, ![512, 1]⟩
abbrev S508x128 : Shape := ⟨2, ![508, 128]⟩
abbrev S510x128 : Shape := ⟨2, ![510, 128]⟩
abbrev S511x128 : Shape := ⟨2, ![511, 128]⟩

abbrev nBuf : Space → Nat
  | .hbm => 66
  | .vmem => 9
  | .smem => 0
  | _ => 0

abbrev bufTy : (tb : Table) → Fin (tcTables nBuf tb) → BufTy
  | .hbm, ⟨0, _⟩ => ⟨S1x2048x2048, .f32⟩
  | .hbm, ⟨1, _⟩ => ⟨S2048x1024, .f32⟩
  | .hbm, ⟨2, _⟩ => ⟨S2048x64, .f32⟩
  | .hbm, ⟨3, _⟩ => ⟨S2048x16, .f32⟩
  | .hbm, ⟨4, _⟩ => ⟨S1x2048x1024, .f32⟩
  | .hbm, ⟨5, _⟩ => ⟨S1x2048x16x64, .f32⟩
  | .hbm, ⟨6, _⟩ => ⟨S1x2048x64, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048, .f32⟩
  | .hbm, ⟨18, _⟩ => ⟨S2048x1, .f32⟩
  | .hbm, ⟨19, _⟩ => ⟨S1x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S1x2048x1x16, .f32⟩
  | .hbm, ⟨26, _⟩ => ⟨S1x2048x1x16, .f32⟩
  | .hbm, ⟨27, _⟩ => ⟨S1x2048x16x32, .f32⟩
  | .hbm, ⟨28, _⟩ => ⟨S1x2048x16x32, .f32⟩
  | .hbm, ⟨29, _⟩ => ⟨S1x2048x16x16, .f32⟩
  | .hbm, ⟨30, _⟩ => ⟨S1x2048x16x16, .f32⟩
  | .hbm, ⟨31, _⟩ => ⟨S1x2048x16x16, .f32⟩
  | .hbm, ⟨32, _⟩ => ⟨S1x2048x16x16, .f32⟩
  | .hbm, ⟨33, _⟩ => ⟨S1x2048x16x16, .f32⟩
  | .hbm, ⟨34, _⟩ => ⟨S1x2048x16x16, .f32⟩
  | .hbm, ⟨35, _⟩ => ⟨S1x2048x16x16, .f32⟩
  | .hbm, ⟨36, _⟩ => ⟨S1x2048x16x16, .f32⟩
  | .hbm, ⟨37, _⟩ => ⟨S1x2048x16x16, .f32⟩
  | .hbm, ⟨38, _⟩ => ⟨S1x2048x16x16, .f32⟩
  | .hbm, ⟨39, _⟩ => ⟨S1x2048x16x16, .f32⟩
  | .hbm, ⟨40, _⟩ => ⟨S1x2048x16x16, .f32⟩
  | .hbm, ⟨41, _⟩ => ⟨S1x2048x16x64, .f32⟩
  | .hbm, ⟨42, _⟩ => ⟨S1x2048x16, .f32⟩
  | .hbm, ⟨43, _⟩ => ⟨S1x2048x16, .f32⟩
  | .hbm, ⟨44, _⟩ => ⟨S1x2048x32, .f32⟩
  | .hbm, ⟨45, _⟩ => ⟨S1x2048x32, .f32⟩
  | .hbm, ⟨46, _⟩ => ⟨S1x2048x16, .f32⟩
  | .hbm, ⟨47, _⟩ => ⟨S1x2048x16, .f32⟩
  | .hbm, ⟨48, _⟩ => ⟨S1x2048x16, .f32⟩
  | .hbm, ⟨49, _⟩ => ⟨S1x2048x16, .f32⟩
  | .hbm, ⟨50, _⟩ => ⟨S1x2048x16, .f32⟩
  | .hbm, ⟨51, _⟩ => ⟨S1x2048x16, .f32⟩
  | .hbm, ⟨52, _⟩ => ⟨S1x2048x16, .f32⟩
  | .hbm, ⟨53, _⟩ => ⟨S1x2048x16, .f32⟩
  | .hbm, ⟨54, _⟩ => ⟨S1x2048x64, .f32⟩
  | .hbm, ⟨55, _⟩ => ⟨S1x2048x16, .f32⟩
  | .hbm, ⟨56, _⟩ => ⟨S1x2048x2048x16, .f32⟩
  | .hbm, ⟨57, _⟩ => ⟨S1x16x2048x2048, .f32⟩
  | .hbm, ⟨58, _⟩ => ⟨S_, .f32⟩
  | .hbm, ⟨59, _⟩ => ⟨S1x16x2048x2048, .f32⟩
  | .hbm, ⟨60, _⟩ => ⟨S1x16x2048x2048, .f32⟩
  | .hbm, ⟨61, _⟩ => ⟨S1x16x2048x2048, .bf16⟩
  | .hbm, ⟨62, _⟩ => ⟨S2048x16, .f32⟩
  | .hbm, ⟨63, _⟩ => ⟨S2048x16, .bf16⟩
  | .hbm, ⟨64, _⟩ => ⟨S8x512x128, .f32⟩
  | .hbm, ⟨65, _⟩ => ⟨S8x512x128, .i32⟩
  | .local _ .vmem, ⟨0, _⟩ => ⟨S1x16x128x2048, .bf16⟩
  | .local _ .vmem, ⟨1, _⟩ => ⟨S1x16x128x2048, .bf16⟩
  | .local _ .vmem, ⟨2, _⟩ => ⟨S128x16, .bf16⟩
  | .local _ .vmem, ⟨3, _⟩ => ⟨S128x16, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .i32⟩
  | .local _ .vmem, ⟨7, _⟩ => ⟨S1x512x128, .i32⟩
  | .local _ .vmem, ⟨8, _⟩ => ⟨S8x128, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_call0_cst : Ref sig .tc := ⟨.hbm, 58, rfl⟩
abbrev main_call0_v0 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55_0 : Ref sig .tc := ⟨.hbm, 64, rfl⟩
abbrev main_v55_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceCIdeal.lean ====
abbrev S1x2048x2048 : Shape := ⟨3, ![1, 2048, 2048]⟩
abbrev S2048x1024 : Shape := ⟨2, ![2048, 1024]⟩
abbrev S2048x64 : Shape := ⟨2, ![2048, 64]⟩
abbrev S2048x16 : Shape := ⟨2, ![2048, 16]⟩
abbrev S1x2048x1024 : Shape := ⟨3, ![1, 2048, 1024]⟩
abbrev S1x2048x16x64 : Shape := ⟨4, ![1, 2048, 16, 64]⟩
abbrev S1x2048x64 : Shape := ⟨3, ![1, 2048, 64]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S1x2048x1x16 : Shape := ⟨4, ![1, 2048, 1, 16]⟩
abbrev S1x2048x16x32 : Shape := ⟨4, ![1, 2048, 16, 32]⟩
abbrev S1x2048x16x16 : Shape := ⟨4, ![1, 2048, 16, 16]⟩
abbrev S1x2048x16 : Shape := ⟨3, ![1, 2048, 16]⟩
abbrev S1x2048x32 : Shape := ⟨3, ![1, 2048, 32]⟩
abbrev S1x2048x2048x16 : Shape := ⟨4, ![1, 2048, 2048, 16]⟩
abbrev S1x16x2048x2048 : Shape := ⟨4, ![1, 16, 2048, 2048]⟩
abbrev S2048x2048 : Shape := ⟨2, ![2048, 2048]⟩
abbrev S1x2048x512 : Shape := ⟨3, ![1, 2048, 512]⟩
abbrev S1x1024x512 : Shape := ⟨3, ![1, 1024, 512]⟩
abbrev S1024x512 : Shape := ⟨2, ![1024, 512]⟩
abbrev S8x128x512 : Shape := ⟨3, ![8, 128, 512]⟩
abbrev S8x512x128 : Shape := ⟨3, ![8, 512, 128]⟩

abbrev nBuf : Space → Nat
  | .hbm => 91
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x1024, .f32⟩
  | .hbm, ⟨2, _⟩ => ⟨S2048x64, .f32⟩
  | .hbm, ⟨3, _⟩ => ⟨S2048x16, .f32⟩
  | .hbm, ⟨4, _⟩ => ⟨S1x2048x1024, .f32⟩
  | .hbm, ⟨5, _⟩ => ⟨S1x2048x16x64, .f32⟩
  | .hbm, ⟨6, _⟩ => ⟨S1x2048x64, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048, .f32⟩
  | .hbm, ⟨18, _⟩ => ⟨S2048x1, .f32⟩
  | .hbm, ⟨19, _⟩ => ⟨S1x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S1x2048x1x16, .f32⟩
  | .hbm, ⟨26, _⟩ => ⟨S1x2048x1x16, .f32⟩
  | .hbm, ⟨27, _⟩ => ⟨S1x2048x16x32, .f32⟩
  | .hbm, ⟨28, _⟩ => ⟨S1x2048x16x32, .f32⟩
  | .hbm, ⟨29, _⟩ => ⟨S1x2048x16x16, .f32⟩
  | .hbm, ⟨30, _⟩ => ⟨S1x2048x16x16, .f32⟩
  | .hbm, ⟨31, _⟩ => ⟨S1x2048x16x16, .f32⟩
  | .hbm, ⟨32, _⟩ => ⟨S1x2048x16x16, .f32⟩
  | .hbm, ⟨33, _⟩ => ⟨S1x2048x16x16, .f32⟩
  | .hbm, ⟨34, _⟩ => ⟨S1x2048x16x16, .f32⟩
  | .hbm, ⟨35, _⟩ => ⟨S1x2048x16x16, .f32⟩
  | .hbm, ⟨36, _⟩ => ⟨S1x2048x16x16, .f32⟩
  | .hbm, ⟨37, _⟩ => ⟨S1x2048x16x16, .f32⟩
  | .hbm, ⟨38, _⟩ => ⟨S1x2048x16x16, .f32⟩
  | .hbm, ⟨39, _⟩ => ⟨S1x2048x16x16, .f32⟩
  | .hbm, ⟨40, _⟩ => ⟨S1x2048x16x16, .f32⟩
  | .hbm, ⟨41, _⟩ => ⟨S1x2048x16x64, .f32⟩
  | .hbm, ⟨42, _⟩ => ⟨S1x2048x16, .f32⟩
  | .hbm, ⟨43, _⟩ => ⟨S1x2048x16, .f32⟩
  | .hbm, ⟨44, _⟩ => ⟨S1x2048x32, .f32⟩
  | .hbm, ⟨45, _⟩ => ⟨S1x2048x32, .f32⟩
  | .hbm, ⟨46, _⟩ => ⟨S1x2048x16, .f32⟩
  | .hbm, ⟨47, _⟩ => ⟨S1x2048x16, .f32⟩
  | .hbm, ⟨48, _⟩ => ⟨S1x2048x16, .f32⟩
  | .hbm, ⟨49, _⟩ => ⟨S1x2048x16, .f32⟩
  | .hbm, ⟨50, _⟩ => ⟨S1x2048x16, .f32⟩
  | .hbm, ⟨51, _⟩ => ⟨S1x2048x16, .f32⟩
  | .hbm, ⟨52, _⟩ => ⟨S1x2048x16, .f32⟩
  | .hbm, ⟨53, _⟩ => ⟨S1x2048x16, .f32⟩
  | .hbm, ⟨54, _⟩ => ⟨S1x2048x64, .f32⟩
  | .hbm, ⟨55, _⟩ => ⟨S1x2048x16, .f32⟩
  | .hbm, ⟨56, _⟩ => ⟨S1x2048x2048x16, .f32⟩
  | .hbm, ⟨57, _⟩ => ⟨S1x16x2048x2048, .f32⟩
  | .hbm, ⟨58, _⟩ => ⟨S_, .f32⟩
  | .hbm, ⟨59, _⟩ => ⟨S1x16x2048x2048, .f32⟩
  | .hbm, ⟨60, _⟩ => ⟨S1x16x2048x2048, .f32⟩
  | .hbm, ⟨61, _⟩ => ⟨S1x2048x2048, .f32⟩
  | .hbm, ⟨62, _⟩ => ⟨S_, .f32⟩
  | .hbm, ⟨63, _⟩ => ⟨S_, .f32⟩
  | .hbm, ⟨64, _⟩ => ⟨S1x2048x2048, .f32⟩
  | .hbm, ⟨65, _⟩ => ⟨S1x2048x2048, .f32⟩
  | .hbm, ⟨66, _⟩ => ⟨S_, .i1⟩
  | .hbm, ⟨67, _⟩ => ⟨S2048x2048, .i1⟩
  | .hbm, ⟨68, _⟩ => ⟨S2048x2048, .i32⟩
  | .hbm, ⟨69, _⟩ => ⟨S_, .i32⟩
  | .hbm, ⟨70, _⟩ => ⟨S2048x2048, .i32⟩
  | .hbm, ⟨71, _⟩ => ⟨S2048x2048, .i32⟩
  | .hbm, ⟨72, _⟩ => ⟨S2048x2048, .i32⟩
  | .hbm, ⟨73, _⟩ => ⟨S2048x2048, .i1⟩
  | .hbm, ⟨74, _⟩ => ⟨S_, .i1⟩
  | .hbm, ⟨75, _⟩ => ⟨S2048x2048, .i1⟩
  | .hbm, ⟨76, _⟩ => ⟨S2048x2048, .i1⟩
  | .hbm, ⟨77, _⟩ => ⟨S1x2048x2048, .i1⟩
  | .hbm, ⟨78, _⟩ => ⟨S_, .f32⟩
  | .hbm, ⟨79, _⟩ => ⟨S1x2048x2048, .f32⟩
  | .hbm, ⟨80, _⟩ => ⟨S1x2048x2048, .f32⟩
  | .hbm, ⟨81, _⟩ => ⟨S1x2048x512, .f32⟩
  | .hbm, ⟨82, _⟩ => ⟨S1x2048x512, .i32⟩
  | .hbm, ⟨83, _⟩ => ⟨S1x1024x512, .f32⟩
  | .hbm, ⟨84, _⟩ => ⟨S1024x512, .f32⟩
  | .hbm, ⟨85, _⟩ => ⟨S8x128x512, .f32⟩
  | .hbm, ⟨86, _⟩ => ⟨S8x512x128, .f32⟩
  | .hbm, ⟨87, _⟩ => ⟨S1x1024x512, .i32⟩
  | .hbm, ⟨88, _⟩ => ⟨S1024x512, .i32⟩
  | .hbm, ⟨89, _⟩ => ⟨S8x128x512, .i32⟩
  | .hbm, ⟨90, _⟩ => ⟨S8x512x128, .i32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_call0_cst : Ref sig .tc := ⟨.hbm, 58, rfl⟩
abbrev main_call0_v0 : Ref sig .tc := ⟨.hbm, 59, rfl⟩
abbrev main_v51 : Ref sig .tc := ⟨.hbm, 60, rfl⟩
abbrev main_v52 : Ref sig .tc := ⟨.hbm, 61, rfl⟩
abbrev main_cst_2 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_c : Ref sig .tc := ⟨.hbm, 66, rfl⟩
abbrev main_v56 : Ref sig .tc := ⟨.hbm, 67, rfl⟩
abbrev main_call1_v0 : Ref sig .tc := ⟨.hbm, 68, rfl⟩
abbrev main_call1_c : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_c_0 : Ref sig .tc := ⟨.hbm, 74, rfl⟩
abbrev main_call1_v5 : Ref sig .tc := ⟨.hbm, 75, rfl⟩
abbrev main_v57 : Ref sig .tc := ⟨.hbm, 76, rfl⟩
abbrev main_v58 : Ref sig .tc := ⟨.hbm, 77, rfl⟩
abbrev main_cst_3 : Ref sig .tc := ⟨.hbm, 78, rfl⟩
abbrev main_call2_v0 : Ref sig .tc := ⟨.hbm, 79, rfl⟩
abbrev main_v59 : Ref sig .tc := ⟨.hbm, 80, rfl⟩
abbrev main_values : Ref sig .tc := ⟨.hbm, 81, rfl⟩
abbrev main_indices : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Proof.Stages.lean ====
/- The two forms in which the kernel writes one compare-exchange stage of its sorting network, as functions of a
   block of values and a block of key numbers (the columns are sorted, each lane on its own), and the network the
   kernel runs on a block of 512 rows. -/
module

public import Idealize.ShloMosaic.PureOps
public import Idealize.ShloMosaic.Lib.ShapeFacts
public import Mathlib.Tactic.FinCases
public import Mathlib.Tactic.Ring
public import Mathlib.Tactic.Positivity

@[expose] public section

noncomputable section

namespace Cert.Net

open Idealize.ShloMosaic Idealize.ShloMosaic.Shape

variable {F : FTy → Type} [FloatOps F]

/-- A block of `n` rows, one column for each of the 128 lanes. -/
abbrev Blk (n : Nat) : Shape := ⟨2, ![n, 128]⟩
/-- One word per row. -/
abbrev Rows (n : Nat) : Shape := ⟨2, ![n, 1]⟩
/-- `g` groups of two pieces of `j` rows. -/
abbrev Pieces (g j : Nat) : Shape := ⟨4, ![g, 2, j, 128]⟩
/-- One piece of every group, its unit axis kept. -/
abbrev Piece1 (g j : Nat) : Shape := ⟨4, ![g, 1, j, 128]⟩
/-- One piece of every group. -/
abbrev Piece (g j : Nat) : Shape := ⟨3, ![g, j, 128]⟩
/-- One word per group. -/
abbrev Groups (g : Nat) : Shape := ⟨3, ![g, 1, 1]⟩

/-- Values and key numbers of a block. -/
abbrev Pair (F : FTy → Type) (n : Nat) : Type := FVec F (Blk n) .f32 × IVec (Blk n) 32

/-! ## Conditions on the shapes -/

theorem slices_rows {n m o : Nat} (h : o + m ≤ n) : (Blk n).Slices ![o, 0] (Blk m) :=
  ⟨rfl, fun a => by fin_cases a <;> simp <;> omega⟩

theorem concat_rows {m j n : Nat} (h : m + j = n) : Shape.Concatenates [Blk m, Blk j] (Blk n) 0 := by
  refine ⟨Nat.le_refl 2, ?_, by subst h; simp⟩
  intro s hs
  simp only [List.mem_cons, List.mem_nil_iff, or_false] at hs
  rcases hs with rfl | rfl <;> exact ⟨rfl, fun b hb => by fin_cases b <;> first | rfl | exact absurd rfl hb⟩

theorem broadcasts_rows (n : Nat) : (Rows n).Broadcasts (Blk n) :=
  ⟨Nat.le_refl 2, fun x => by fin_cases x <;> first | exact .inl rfl | exact .inr fun _ => rfl⟩

theorem broadcasts_self (s : Shape) : s.Broadcasts s :=
  ⟨Nat.le_refl _, fun x => .inr fun _ => by congr 1; exact Fin.ext (by simp)⟩

theorem broadcasts_groups (g j : Nat) : (Groups g).Broadcasts (Piece g j) :=
  ⟨Nat.le_refl 3, fun x => by fin_cases x <;> first | exact .inl rfl | exact .inr fun _ => rfl⟩

theorem iotas_rows (n c : Nat) : (⟨2, ![n, c]⟩ : Shape).Iotas .tc 32 [0] := by
  refine ⟨List.nodup_singleton _, fun _ => ⟨.inr rfl, Nat.le_refl 2⟩, fun h => absurd rfl h⟩

theorem iotas_groups (g : Nat) : (Groups g).Iotas .tc 32 [0] := by
  refine ⟨List.nodup_singleton _, fun _ => ⟨.inr rfl, Nat.le_succ 2⟩, fun h => absurd rfl h⟩

theorem slices_piece {g j o : Nat} (h : o < 2) : (Pieces g j).Slices ![0, o, 0, 0] (Piece1 g j) :=
  ⟨rfl, fun a => by fin_cases a <;> simp <;> omega⟩

theorem casts_piece (g j : Nat) : (Piece1 g j).ShapeCasts (Piece g j) := by
  show (Piece g j).numel = (Piece1 g j).numel
  rw [numel_rank3, numel_rank4]; simp

theorem casts_piece' (g j : Nat) : (Piece g j).ShapeCasts (Piece1 g j) := (casts_piece g j).symm

theorem concat_pieces (g j : Nat) : Shape.Concatenates [Piece1 g j, Piece1 g j] (Pieces g j) 1 :=
  concatenates_axis1_rank4 g 1 1 j 128

theorem casts_pieces {n g j : Nat} (h : g * 2 * j = n) : (Blk n).ShapeCasts (Pieces g j) := by
  show (Pieces g j).numel = (Blk n).numel
  rw [numel_rank2, numel_rank4]; subst h; rfl

theorem casts_blk {n g j : Nat} (h : g * 2 * j = n) : (Pieces g j).ShapeCasts (Blk n) := (casts_pieces h).symm

/-! ## The stage written with rotations -/

/-- The rows moved up by `j`: row `i` gets row `i + j`. -/
def rotUp {α : Type} {n m j : Nat} (h : m + j = n) (X : (Blk n).Idx → α) : (Blk n).Idx → α :=
  concatenate (Blk n) 0 [⟨Blk m, extractStridedSlice (Blk m) ![j, 0] X (slices_rows (by omega))⟩,
    ⟨Blk j, extractStridedSlice (Blk j) ![0, 0] X (slices_rows (by omega))⟩] (concat_rows h)

/-- The rows moved down by `j`: row `i + j` gets row `i`. -/
def rotDown {α : Type} {n m j : Nat} (h : m + j = n) (X : (Blk n).Idx → α) : (Blk n).Idx → α :=
  concatenate (Blk n) 0 [⟨Blk j, extractStridedSlice (Blk j) ![m, 0] X (slices_rows (by omega))⟩,
    ⟨Blk m, extractStridedSlice (Blk m) ![0, 0] X (slices_rows (by omega))⟩] (concat_rows (by omega))

/-- Row by row, whether the row's number and the word `w` have no bit in common. -/
def rowClear (n : Nat) (w : BitVec 32) : IVec (Rows n) 1 :=
  cmpi .eq (andi (iota .tc (Rows n) 32 [0] (iotas_rows n 1)) (broadcast (Rows n) w)) (broadcast (Rows n) 0#32)

/-- Every row's partner at distance `j`. -/
def rollPartner {α : Type} {n m j : Nat} (h : m + j = n) (X : (Blk n).Idx → α) : (Blk n).Idx → α :=
  select (broadcastTo (Blk n) (shapeCast (Rows n) (rowClear n (BitVec.ofNat 32 j)) (shapeCasts_self _)) (broadcasts_rows n))
    (rotUp h X) (rotDown h X)

/-- The first entry comes before the second: greater, or equal with the smaller key number. -/
def before {s : Shape} (v pv : FVec F s .f32) (x px : IVec s 32) : IVec s 1 :=
  ori (cmpf .ogt v pv) (andi (cmpf .oeq v pv) (cmpi .slt x px))

/-- Where the rotation stage keeps a row's own entry. -/
def rollKeep {n m j : Nat} (h : m + j = n) (kw : BitVec 32) (p : Pair F n) : IVec (Blk n) 1 :=
  xori (xori (before p.1 (rollPartner h p.1) p.2 (rollPartner h p.2))
    (broadcastTo (Blk n) (broadcastTo (Blk n)
      (xori (xori (rowClear n (BitVec.ofNat 32 j)) (rowClear n kw)) (constantI (Rows n) 1 1#1)) (broadcasts_rows n)) (broadcasts_self _)))
    (constantI (Blk n) 1 1#1)

/-- A stage at distance `j` written with rotations. -/
def rollStage {n m j : Nat} (h : m + j = n) (kw : BitVec 32) (p : Pair F n) : Pair F n :=
  (select (rollKeep h kw p) p.1 (rollPartner h p.1), select (rollKeep h kw p) p.2 (rollPartner h p.2))

/-! ## The stage written with groups of two pieces -/

/-- Piece `o` of every group. -/
def piece {α : Type} {n g j : Nat} (h : g * 2 * j = n) (o : Nat) (ho : o < 2) (X : (Blk n).Idx → α) : (Piece g j).Idx → α :=
  shapeCast (Piece g j) (extractStridedSlice (Piece1 g j) ![0, o, 0, 0] (shapeCast (Pieces g j) X (casts_pieces h)) (slices_piece ho))
    (casts_piece g j)

/-- A block put together from the two pieces of every group. -/
def joinPieces {α : Type} {n g j : Nat} (h : g * 2 * j = n) (A B : (Piece g j).Idx → α) : (Blk n).Idx → α :=
  shapeCast (Blk n) (concatenate (Pieces g j) 1 [⟨Piece1 g j, shapeCast (Piece1 g j) A (casts_piece' g j)⟩,
    ⟨Piece1 g j, shapeCast (Piece1 g j) B (casts_piece' g j)⟩] (concat_pieces g j)) (casts_blk h)

/-- Group by group, whether the group's number and the word `w` have no bit in common. -/
def groupClear (g : Nat) (w : BitVec 32) : IVec (Groups g) 1 :=
  cmpi .eq (andi (iota .tc (Groups g) 32 [0] (iotas_groups g)) (broadcast (Groups g) w)) (broadcast (Groups g) 0#32)

/-- Where the two pieces of a group change places. -/
def pieceSwap {n g j : Nat} (h : g * 2 * j = n) (dw : BitVec 32) (p : Pair F n) : IVec (Piece g j) 1 :=
  xori (before (piece h 0 Nat.zero_lt_two p.1) (piece h 1 Nat.one_lt_two p.1) (piece h 0 Nat.zero_lt_two p.2) (piece h 1 Nat.one_lt_two p.2))
    (broadcastTo (Piece g j) (broadcastTo (Piece g j) (groupClear g dw) (broadcasts_groups g j)) (broadcasts_self _))

/-- A stage at distance `j` written with groups of two pieces of `j` rows. -/
def pieceStage {n g j : Nat} (h : g * 2 * j = n) (dw : BitVec 32) (p : Pair F n) : Pair F n :=
  (joinPieces h (select (pieceSwap h dw p) (piece h 1 Nat.one_lt_two p.1) (piece h 0 Nat.zero_lt_two p.1))
      (select (pieceSwap h dw p) (piece h 0 Nat.zero_lt_two p.1) (piece h 1 Nat.one_lt_two p.1)),
   joinPieces h (select (pieceSwap h dw p) (piece h 1 Nat.one_lt_two p.2) (piece h 0 Nat.zero_lt_two p.2))
      (select (pieceSwap h dw p) (piece h 0 Nat.zero_lt_two p.2) (piece h 1 Nat.one_lt_two p.2)))

/-! ## The network -/

theorem two_pow_split {p s n : Nat} (hn : 2 ^ p = n) (hs : s < p) : n / (2 * 2 ^ s) * 2 * 2 ^ s = n := by
  obtain ⟨t, rfl⟩ := Nat.exists_eq_add_of_lt hs
  subst hn
  rw [show 2 ^ (s + t + 1) = 2 ^ t * (2 * 2 ^ s) by ring, Nat.mul_div_cancel _ (by positivity)]
  ring

theorem two_pow_sub {p s n : Nat} (hn : 2 ^ p = n) (hs : s < p) : n - 2 ^ s + 2 ^ s = n := by
  have := Nat.pow_le_pow_right Nat.zero_lt_two hs.le
  omega

/-- The stage at distance `2 ^ s`, descending where the row's number has bit `k` clear: in the rotation form below
    distance 8, in the grouped form from there on. -/
def netStage {p n : Nat} (hn : 2 ^ p = n) (k s : Nat) (hs : s < p) (q : Pair F n) : Pair F n :=
  if s < 3 then rollStage (two_pow_sub hn hs) (BitVec.ofNat 32 (2 ^ k)) q
  else pieceStage (two_pow_split hn hs) (BitVec.ofNat 32 (2 ^ k / (2 * 2 ^ s))) q

/-- The stages at distances `2 ^ s`, …, 2, 1, all with direction bit `k`. -/
def netDown {p n : Nat} (hn : 2 ^ p = n) (k : Nat) : (s : Nat) → s < p → Pair F n → Pair F n
  | 0, h, q => netStage hn k 0 h q
  | s + 1, h, q => netDown hn k s (Nat.lt_of_succ_lt h) (netStage hn k (s + 1) h q)

/-- The first `l` levels of the bitonic sort: afterwards the chunks of `2 ^ l` rows are sorted, descending and
    ascending in turn. -/
def netLevels {p n : Nat} (hn : 2 ^ p = n) : (l : Nat) → l ≤ p → Pair F n → Pair F n
  | 0, _, q => q
  | l + 1, h, q => netDown hn (l + 1) l h (netLevels hn l (Nat.le_of_succ_le h) q)

end Cert.Net

end
-- ==== Proof.Scores.lean ====
/- The part of the kernel before its sort, as functions of the blocks it loads: the weighted sum of the sixteen heads'
   scores, turned so that every query has a lane, with the keys after the query masked. -/
module

public import proofs.«01_k».proof.Proof.Stages
public import Idealize.ShloMosaic.PureOps.Ideal

@[expose] public section

noncomputable section

namespace Cert.Net

open Idealize.ShloMosaic Idealize.ShloMosaic.Shape

variable {F : FTy → Type} [FloatOps F]

/-- One head's scores of 128 queries with `n` keys, as loaded. -/
abbrev HeadLoad (n : Nat) : Shape := ⟨4, ![1, 1, 128, n]⟩
/-- Scores of 128 queries with `n` keys. -/
abbrev Queries (n : Nat) : Shape := ⟨2, ![128, n]⟩
/-- The sixteen heads' weights of 128 queries. -/
abbrev Weights : Shape := ⟨2, ![128, 16]⟩

theorem casts_head (n : Nat) : (HeadLoad n).ShapeCasts (Queries n) := by
  show (Queries n).numel = (HeadLoad n).numel
  rw [numel_rank2, numel_rank4]; simp

theorem slices_weight {h : Nat} (hh : h < 16) : Weights.Slices ![0, h] (Queries 1) :=
  ⟨rfl, fun a => by fin_cases a <;> simp <;> omega⟩

theorem broadcasts_weight (n : Nat) : (Queries 1).Broadcasts (Queries n) :=
  ⟨Nat.le_refl 2, fun x => by fin_cases x <;> first | exact .inl rfl | exact .inr fun _ => rfl⟩

theorem transposes_queries (n : Nat) : (Queries n).Transposes [1, 0] (Blk n) := by
  exact ⟨List.Perm.swap _ _ _, rfl, fun b => by fin_cases b <;> rfl⟩

theorem iotas_blk (n : Nat) (d : Fin 2) : (Blk n).Iotas .tc 32 [d] := by
  refine ⟨List.nodup_singleton _, fun _ => ⟨.inr rfl, Nat.le_refl 2⟩, fun h => absurd rfl h⟩

/-- The weights, each times one eighth. -/
def scaledWeights (w : FVec F Weights .bf16) : FVec F Weights .f32 :=
  mulf (extf .f32 (shapeCast Weights w (shapeCasts_self _)) (by decide)) (broadcast Weights (Scalar.ofBits .f32 0x3E000000#32))

/-- The weighted sum of the first `h` heads' scores. -/
def headSum {n : Nat} (w : FVec F Weights .f32) (L : (h : Nat) → h < 16 → FVec F (HeadLoad n) .bf16) : (h : Nat) → h ≤ 16 → FVec F (Queries n) .f32
  | 0, _ => broadcast (Queries n) (Scalar.ofBits .f32 0x00000000#32)
  | h + 1, hh => addf (headSum w L h (Nat.le_of_succ_le hh))
      (mulf (extf .f32 (shapeCast (Queries n) (L h hh) (casts_head n)) (by decide))
        (broadcastTo (Queries n) (extractStridedSlice (Queries 1) ![0, h] w (slices_weight hh)) (broadcasts_weight n)))

/-- The key numbers of a block. -/
def keyIds (n : Nat) : IVec (Blk n) 32 := iota .tc (Blk n) 32 [0] (iotas_blk n 0)

/-- The scores, a lane for each query of block `b`, with `fill` at the keys after the query. -/
def scoreBlock {n : Nat} (b : BitVec 32) (fill : F .f32) (w : FVec F Weights .bf16) (L : (h : Nat) → h < 16 → FVec F (HeadLoad n) .bf16) : FVec F (Blk n) .f32 :=
  select (cmpi .sle (keyIds n) (addi (iota .tc (Blk n) 32 [1] (iotas_blk n 1)) (broadcast (Blk n) (Scalar.muli b 128#32))))
    (transpose (Blk n) [1, 0] (headSum (scaledWeights w) L 16 (Nat.le_refl 16)) (transposes_queries n)) (broadcast (Blk n) fill)

end Cert.Net

end
-- ==== Proof.LinkA.lean ====
/- The kernel on blocks of 512 keys, put in terms of the named stages: what it stores is the masked scores gone through
   the whole sorting network. -/
module

public import proofs.«01_k».proof.Proof.Gen.KernelAIdeal.Value
public import proofs.«01_k».proof.Proof.Scores

@[expose] public section

set_option maxRecDepth 65536

noncomputable section

namespace Cert.NetA

open Cert.KernelAIdeal Cert.KernelAIdeal.Gen Idealize.ShloMosaic Idealize.ShloMosaic.TcCoe Cert.Net

variable {F : FTy → Type} [FloatOps F] [Named F]

section
variable (c : Dev nD) (i : grid0.Coords) (arg1 : Memref sig .tc .vmem S1x16x128x512 .bf16) (harg1 : arg1.IsWhole)
  (arg2 : Memref sig .tc .vmem S128x16 .bf16) (harg2 : arg2.IsWhole) (arg3 : Memref sig .tc .vmem S1x512x128 .f32) (harg3 : arg3.IsWhole)
  (arg4 : Memref sig .tc .vmem S1x512x128 .i32) (harg4 : arg4.IsWhole) (arg5 : Memref sig .tc .vmem S8x128 .f32) (harg5 : arg5.IsWhole)
  (x0 : Vec F S1x16x128x512 .bf16) (x1 : Vec F S128x16 .bf16)

theorem inb_head (h : Nat) (hh : h < 16) : ∀ a, (![0, h, 0, 0] : Fin 4 → Nat) a + S1x1x128x512.size a ≤ S1x16x128x512.size a :=
  fun a => by fin_cases a <;> simp <;> omega

/-- One head's scores as the kernel loads them. -/
def headLoad (h : Nat) (hh : h < 16) : FVec F (HeadLoad 512) .bf16 :=
  View.readAt (Elt F) arg1.view (Rect.unit (s := S1x16x128x512) ![0, h, 0, 0] S1x1x128x512.size (inb_head h hh)).toLoadRect (harg1.unread x0)

/-- The weights as the kernel loads them. -/
def weightLoad : FVec F Weights .bf16 :=
  View.readAt (Elt F) arg2.view (Rect.unit (s := S128x16) ![0, 0] S128x16.size inb_S128x16_S128x16_0_0).toLoadRect (harg2.unread x1)

/-- The masked scores and the key numbers, as the kernel's sort finds them. -/
def start : Pair F 512 :=
  (scoreBlock (kernelRun0_A.sl.v0 i) (Named.named κ "mask" 0xFF7FFFFF#32) (weightLoad arg2 harg2 x1) (headLoad arg1 harg1 x0), keyIds 512)

theorem first_levels : (kernelRun0_A.sl.v936 c i arg1 harg1 arg2 harg2 x0 x1, kernelRun0_A.sl.v937 c i arg1 harg1 arg2 harg2 x0 x1)
    = netLevels (p := 9) (n := 512) rfl 6 (by decide) (start i arg1 harg1 arg2 harg2 x0 x1) := by
  sl_kernel_rfl

theorem stored_values_late : (kernelRun0_A c i arg1 harg1 arg2 harg2 arg3 harg3 arg4 harg4 arg5 harg5 x0 x1).1 =
    [⟨Rect.unit ![0, 0, 0] ![1, 512, 128] inb_S1x512x128_S1x512x128_0_0_0,
      shapeCast S1x512x128 (netDown (p := 9) (n := 512) rfl 9 8 (by decide) (netDown (p := 9) (n := 512) rfl 8 7 (by decide)
        (netDown (p := 9) (n := 512) rfl 7 6 (by decide) (kernelRun0_A.sl.v936 c i arg1 harg1 arg2 harg2 x0 x1, kernelRun0_A.sl.v937 c i arg1 harg1 arg2 harg2 x0 x1)))).1
        shapeCasts_S512x128_S1x512x128⟩] := by
  sl_kernel_rfl

theorem stored_keys_late : (kernelRun0_A c i arg1 harg1 arg2 harg2 arg3 harg3 arg4 harg4 arg5 harg5 x0 x1).2.1 =
    [⟨Rect.unit ![0, 0, 0] ![1, 512, 128] inb_S1x512x128_S1x512x128_0_0_0,
      shapeCast S1x512x128 (netDown (p := 9) (n := 512) rfl 9 8 (by decide) (netDown (p := 9) (n := 512) rfl 8 7 (by decide)
        (netDown (p := 9) (n := 512) rfl 7 6 (by decide) (kernelRun0_A.sl.v936 c i arg1 harg1 arg2 harg2 x0 x1, kernelRun0_A.sl.v937 c i arg1 harg1 arg2 harg2 x0 x1)))).2
        shapeCasts_S512x128_S1x512x128⟩] := by
  sl_kernel_rfl

theorem stored_values : (kernelRun0_A c i arg1 harg1 arg2 harg2 arg3 harg3 arg4 harg4 arg5 harg5 x0 x1).1 =
    [⟨Rect.unit ![0, 0, 0] ![1, 512, 128] inb_S1x512x128_S1x512x128_0_0_0,
      shapeCast S1x512x128 (netLevels (p := 9) (n := 512) rfl 9 (Nat.le_refl 9) (start i arg1 harg1 arg2 harg2 x0 x1)).1
        shapeCasts_S512x128_S1x512x128⟩] := by
  rw [stored_values_late, first_levels]
  rfl

theorem stored_keys : (kernelRun0_A c i arg1 harg1 arg2 harg2 arg3 harg3 arg4 harg4 arg5 harg5 x0 x1).2.1 =
    [⟨Rect.unit ![0, 0, 0] ![1, 512, 128] inb_S1x512x128_S1x512x128_0_0_0,
      shapeCast S1x512x128 (netLevels (p := 9) (n := 512) rfl 9 (Nat.le_refl 9) (start i arg1 harg1 arg2 harg2 x0 x1)).2
        shapeCasts_S512x128_S1x512x128⟩] := by
  rw [stored_keys_late, first_levels]
  rfl

end

end Cert.NetA

end
-- ==== Proof.ScoreRead.lean ====
/- The scores in the exact arithmetic: the kernel's block of masked scores and the reference's masked score matrix, each
   read at one place, and the two readings the same number. -/
module

public import proofs.«01_k».proof.Proof.Scores
public import Idealize.ShloMosaic.PureOps.Ideal.Laws
public import Idealize.ShloMosaic.Lib.ValueIdx
public import Idealize.ShloMosaic.Lib.ValueIdxCore
public import Idealize.ShloMosaic.Lib.ValueLayout
public import Idealize.ShloMosaic.Lib.IdealHost

@[expose] public section

noncomputable section

namespace Cert.Net

open Idealize.ShloMosaic Idealize.ShloMosaic.Shape Idealize.ShloMosaic.ValueIdx
open scoped BigOperators

/-! ## Three constants -/

theorem zero_word : (Scalar.ofBits (F := Ideal) .f32 0x00000000#32 : EReal) = 0 := by
  show Ideal.ofBits .f32 0x00000000#32 = 0
  simp [Ideal.ofBits, Ideal.ieee]

theorem eighth_word : (Scalar.ofBits (F := Ideal) .f32 0x3E000000#32 : EReal) = ((1 / 8 : ℝ) : EReal) := by
  show Ideal.ofBits .f32 0x3E000000#32 = ((1 / 8 : ℝ) : EReal)
  simp [Ideal.ofBits, Ideal.ieee, -EReal.coe_mul]; norm_num

theorem sixty_four_word : Ideal.ofBits .f32 0x42800000#32 = ((64 : ℝ) : EReal) := by
  simp [Ideal.ofBits, Ideal.ieee, -EReal.coe_mul]; norm_num

theorem div_root (x : EReal) : Ideal.div x (Ideal.sqrt (Ideal.ofBits .f32 0x42800000#32)) = x * ((1 / 8 : ℝ) : EReal) := by
  rw [sixty_four_word, Ideal.sqrt_coe, if_neg (by norm_num), show Real.sqrt 64 = 8 by
    rw [show (64 : ℝ) = 8 ^ 2 by norm_num]; exact Real.sqrt_sq (by norm_num), Ideal.div_coe (by norm_num)]

/-! ## One score -/

/-- The score of a query with a key, from the heads' weights of the query and the heads' products with the key. -/
def mixed (w r : Fin 16 → EReal) : EReal := ∑ h, r h * (w h * ((1 / 8 : ℝ) : EReal))

/-- The same number from the weighted sum taken first and divided by eight afterwards. -/
theorem mixed_eq (w r : Fin 16 → EReal) : (∑ h, w h * r h) * ((1 / 8 : ℝ) : EReal) = mixed w r := by
  have key : ∀ (s : Finset (Fin 16)), (∑ h ∈ s, w h * r h) * ((1 / 8 : ℝ) : EReal) = ∑ h ∈ s, r h * (w h * ((1 / 8 : ℝ) : EReal)) := by
    intro s
    induction s using Finset.induction_on with
    | empty => simp
    | insert a s ha ih =>
      rw [Finset.sum_insert ha, Finset.sum_insert ha,
        EReal.right_distrib_of_nonneg_of_ne_top (by exact_mod_cast (by norm_num : (0 : ℝ) ≤ 1 / 8)) (EReal.coe_ne_top _), ih]
      congr 1
      rw [← mul_assoc, mul_comm (r a)]
  exact key Finset.univ

/-! ## The kernel's block -/

theorem scaledWeights_apply (w : FVec Ideal Weights .bf16) (x : Weights.Idx) : scaledWeights w x = w x * ((1 / 8 : ℝ) : EReal) := by
  rw [← eighth_word]
  show shapeCast Weights w _ x * _ = _
  rw [shapeCast_self]; rfl

theorem casts_head_apply {n : Nat} {α : Type} (x : (HeadLoad n).Idx → α) (a : Fin 128) (s : Fin n) :
    shapeCast (Queries n) x (casts_head n) (ix2 a s) = x (ix4 (0 : Fin 1) (0 : Fin 1) a s) :=
  shapeCast_apply x _ _ _ (by
    rw [Shape.rowMajor_val_four, Shape.rowMajor_val_two]
    show ((0 * 1 + 0) * 128 + a.val) * n + s.val = a.val * n + s.val
    simp)

theorem weight_apply {n : Nat} (w : FVec Ideal Weights .f32) {h : Nat} (hh : h < 16) (a : Fin 128) (s : Fin n) :
    broadcastTo (Queries n) (extractStridedSlice (Queries 1) ![0, h] w (slices_weight hh)) (broadcasts_weight n) (ix2 a s)
      = w (ix2 a ⟨h, hh⟩) := by
  rw [broadcastTo_apply _ _ _ (ix2 a (0 : Fin 1)) (fun d => by fin_cases d <;> simp [ix2])]
  exact extractStridedSlice_apply _ _ _ _ _ (fun d => by fin_cases d <;> simp [ix2])

theorem headSum_apply {n : Nat} (w : FVec Ideal Weights .f32) (L : (h : Nat) → h < 16 → FVec Ideal (HeadLoad n) .bf16)
    (a : Fin 128) (s : Fin n) : ∀ (k : Nat) (hk : k ≤ 16), headSum w L k hk (ix2 a s)
      = ∑ h : Fin k, (L h.val (by omega) (ix4 (0 : Fin 1) (0 : Fin 1) a s) : EReal) * w (ix2 a ⟨h.val, by omega⟩)
  | 0, _ => by rw [Fin.sum_univ_zero]; exact zero_word
  | k + 1, hk => by
    rw [Fin.sum_univ_castSucc]
    refine congrArg₂ (fun x y : EReal => x + y) (headSum_apply w L a s k (Nat.le_of_succ_le hk)) ?_
    refine congrArg₂ (fun x y : EReal => x * y) ?_ (weight_apply w hk a s)
    exact casts_head_apply (L k hk) a s

/-- **The kernel's masked scores, at one key of one query.** -/
theorem scoreBlock_apply {n : Nat} (hn : n ≤ 2048) (b : Nat) (hb : b < 16) (fill : Ideal .f32) (w : FVec Ideal Weights .bf16)
    (L : (h : Nat) → h < 16 → FVec Ideal (HeadLoad n) .bf16) (s : Fin n) (a : Fin 128) :
    scoreBlock (BitVec.ofNat 32 b) fill w L (ix2 s a) = if s.val ≤ 128 * b + a.val then
      mixed (fun h => w (ix2 a h)) (fun h => L h.val h.isLt (ix4 (0 : Fin 1) (0 : Fin 1) a s)) else fill := by
  have hc : (cmpi .sle (keyIds n) (addi (iota .tc (Blk n) 32 [1] (iotas_blk n 1)) (broadcast (Blk n) (Scalar.muli (BitVec.ofNat 32 b) 128#32))) (ix2 s a) : BitVec 1)
      = BitVec.ofBool (decide (s.val ≤ 128 * b + a.val)) := by
    show BitVec.ofBool ((BitVec.ofNat 32 (0 * n + s.val)).sle (BitVec.ofNat 32 (0 * 128 + a.val) + BitVec.ofNat 32 b * 128#32)) = _
    congr 1
    have e : BitVec.ofNat 32 (0 * 128 + a.val) + BitVec.ofNat 32 b * 128#32 = BitVec.ofNat 32 (128 * b + a.val) := by
      apply BitVec.eq_of_toNat_eq; simp; omega
    have hs := s.isLt
    rw [e, BitVec.sle_eq_decide, Nat.zero_mul, Nat.zero_add]
    congr 1
    rw [BitVec.toInt_eq_toNat_of_lt (by simp; omega), BitVec.toInt_eq_toNat_of_lt (by simp; omega)]
    simp
    omega
  show (if (cmpi .sle (keyIds n) _ (ix2 s a) : BitVec 1) = 1#1 then _ else _) = _
  rw [hc]
  by_cases h : s.val ≤ 128 * b + a.val
  · simp only [h, decide_true, BitVec.ofBool_true, if_true]
    rw [transpose_ix2_apply, headSum_apply]
    exact Finset.sum_congr rfl fun h _ => by rw [scaledWeights_apply]
  · simp only [h, decide_false, BitVec.ofBool_false, if_false]
    rfl

end Cert.Net

end
-- ==== Proof.Columns.lean ====
/- What a compare-exchange stage of the kernel does to one column of a block over the reals: the column, as a list of
   entries (value, key number) in the order "greater value first, then smaller key number", goes through the stage of
   the bitonic network at the same distance with the same direction bit. -/
module

public import proofs.«01_k».proof.Proof.Stages
public import Idealize.ShloMosaic.Lib.ValueIdxCoords
public import Idealize.ShloMosaic.Lib.ValueIdx
public import Idealize.ShloMosaic.Lib.Pipeline.Value
public import Idealize.ShloMosaic.Lib.SortNet.Sorts
public import Idealize.ShloMosaic.Lib.SortNet.TopList
public import Mathlib.Data.Prod.Lex

@[expose] public section

noncomputable section

namespace Cert.Net

open Idealize.ShloMosaic Idealize.ShloMosaic.Shape Idealize.ShloMosaic.ValueIdx Idealize.ShloMosaic.SortNet

/-! ## Entries -/

/-- Values with key numbers, in an order in which the greatest entry has the greatest value and, among those, the
    smallest key number. -/
abbrev Scored : Type := EReal ×ₗ ℤᵒᵈ

/-- The entry of a value and a key number. -/
def ent (v : EReal) (x : BitVec 32) : Scored := toLex (v, OrderDual.toDual x.toInt)

theorem ent_lt (v w : EReal) (x y : BitVec 32) : ent w y < ent v x ↔ w < v ∨ (w = v ∧ x.toInt < y.toInt) := by
  unfold ent
  rw [Prod.Lex.toLex_lt_toLex]
  rfl

/-- The entries of lane `c`. -/
def col {n : Nat} (q : Pair Ideal n) (c : Fin 128) (i : Fin n) : Scored := ent (q.1 (ix2 i c)) (q.2 (ix2 i c))

theorem ent_select (b : Bool) (v w : EReal) (x y : BitVec 32) :
    ent (Scalar.select (BitVec.ofBool b) v w) (Scalar.select (BitVec.ofBool b) x y) = if b then ent v x else ent w y := by
  cases b <;> rfl

/-- The comparison at an index says which of two entries is greater. -/
theorem before_apply {s : Shape} (v pv : FVec Ideal s .f32) (x px : IVec s 32) (i : s.Idx) :
    before v pv x px i = BitVec.ofBool (decide (ent (pv i) (px i) < ent (v i) (x i))) := by
  show BitVec.ofBool (decide (pv i < v i)) ||| (BitVec.ofBool (decide (v i = pv i)) &&& BitVec.ofBool ((x i).slt (px i))) = _
  rw [show (x i).slt (px i) = decide ((x i).toInt < (px i).toInt) from rfl, decide_eq_decide.mpr (ent_lt (v i) (pv i) (x i) (px i)),
    decide_eq_decide.mpr (eq_comm (a := v i) (b := pv i)), Bool.decide_or, Bool.decide_and]
  generalize decide (pv i < v i) = A
  generalize decide (pv i = v i) = B
  generalize decide ((x i).toInt < (px i).toInt) = C
  revert A B C; decide

/-- A word with one bit, and a number, have no bit in common when the number has that bit clear. -/
theorem word_clear {i t : Nat} (hi : i < 2 ^ 32) (ht : t < 32) :
    ((BitVec.ofNat 32 i &&& BitVec.ofNat 32 (2 ^ t)) == 0#32) = decide (i &&& 2 ^ t = 0) := by
  rw [Bool.beq_eq_decide_eq, decide_eq_decide, ← BitVec.toNat_inj]
  have h2 : 2 ^ t < 2 ^ 32 := Nat.pow_lt_pow_right (by decide) ht
  simp only [BitVec.toNat_and, BitVec.toNat_ofNat, Nat.mod_eq_of_lt hi, Nat.mod_eq_of_lt h2, Nat.zero_mod]

theorem rowClear_apply {n t : Nat} (hn : n ≤ 2 ^ 32) (ht : t < 32) (i : Fin n) (z : Fin 1) :
    rowClear n (BitVec.ofNat 32 (2 ^ t)) (ix2 i z) = BitVec.ofBool (decide (i.val &&& 2 ^ t = 0)) := by
  show BitVec.ofBool ((BitVec.ofNat 32 (0 * n + i.val) &&& BitVec.ofNat 32 (2 ^ t)) == 0#32) = _
  rw [Nat.zero_mul, Nat.zero_add, word_clear (by omega) ht]

theorem groupClear_apply {g t : Nat} (hg : g ≤ 2 ^ 32) (ht : t < 32) (q : Fin g) (z z' : Fin 1) :
    groupClear g (BitVec.ofNat 32 (2 ^ t)) (ix3 q z z') = BitVec.ofBool (decide (q.val &&& 2 ^ t = 0)) := by
  show BitVec.ofBool ((BitVec.ofNat 32 (0 * g + q.val) &&& BitVec.ofNat 32 (2 ^ t)) == 0#32) = _
  rw [Nat.zero_mul, Nat.zero_add, word_clear (by omega) ht]

/-! ## Rows after a rotation -/

section
variable {α : Type} {n m j : Nat} (h : m + j = n) (X : (Blk n).Idx → α)

theorem rotUp_apply (i i' : Fin n) (c : Fin 128) (hi : i'.val = i.val + j) : rotUp h X (ix2 i c) = X (ix2 i' c) := by
  have h1 := i'.isLt
  unfold rotUp
  rw [concatenate_pair_apply_left (t := Blk n) (s₁ := Blk m) (s₂ := Blk j) (0 : Fin 2) _ _ _ (ix2 i c) rfl (ix2 ⟨i.val, by omega⟩ c)
    (fun b => by match b with | ⟨0, _⟩ => rfl | ⟨1, _⟩ => rfl)]
  exact extractStridedSlice_apply _ _ _ _ (ix2 i' c) (fun a => by
    match a with | ⟨0, _⟩ => (show i'.val = j + i.val; omega) | ⟨1, _⟩ => (show c.val = 0 + c.val; omega))

theorem rotDown_apply (i i' : Fin n) (c : Fin 128) (hi : i.val = i'.val + j) : rotDown h X (ix2 i c) = X (ix2 i' c) := by
  have h1 := i.isLt
  unfold rotDown
  rw [concatenate_pair_apply_right (t := Blk n) (s₁ := Blk j) (s₂ := Blk m) (0 : Fin 2) _ _ _ (ix2 i c) rfl rfl (ix2 ⟨i'.val, by omega⟩ c)
    (fun b hb => by match b with | ⟨0, _⟩ => exact absurd rfl hb | ⟨1, _⟩ => rfl) hi.symm]
  exact extractStridedSlice_apply _ _ _ _ (ix2 i' c) (fun a => by
    match a with | ⟨0, _⟩ => (show i'.val = 0 + i'.val; omega) | ⟨1, _⟩ => (show c.val = 0 + c.val; omega))

end

theorem broadcastTo_rows {α : Type} {n : Nat} (x : (Rows n).Idx → α) (i : Fin n) (c : Fin 128) :
    broadcastTo (Blk n) x (broadcasts_rows n) (ix2 i c) = x (ix2 i u0) :=
  broadcastTo_apply _ _ _ (ix2 i u0) (fun a => by
    match a with
    | ⟨0, _⟩ => (show i.val = if n = 1 then 0 else i.val); split <;> omega
    | ⟨1, _⟩ => rfl)

theorem broadcastTo_groups {α : Type} {g j : Nat} (x : (Groups g).Idx → α) (q : Fin g) (r : Fin j) (c : Fin 128) :
    broadcastTo (Piece g j) x (broadcasts_groups g j) (ix3 q r c) = x (ix3 q u0 u0) :=
  broadcastTo_apply _ _ _ (ix3 q u0 u0) (fun a => by
    match a with
    | ⟨0, _⟩ => (show q.val = if g = 1 then 0 else q.val); split <;> omega
    | ⟨1, _⟩ => rfl
    | ⟨2, _⟩ => rfl)

theorem broadcastTo_same {α : Type} {s : Shape} (x : s.Idx → α) : broadcastTo s x (broadcasts_self s) = x := by
  funext i
  refine broadcastTo_apply _ _ _ i (fun a => ?_)
  have := (i a).isLt
  split
  · omega
  · exact congrArg (fun b => (i b).val) (Fin.ext (by simp))

theorem rollPartner_apply {α : Type} {p s m : Nat} (hs : s < p) (hp : p ≤ 31) (h : m + 2 ^ s = 2 ^ p) (X : (Blk (2 ^ p)).Idx → α)
    (i : Fin (2 ^ p)) (c : Fin 128) : rollPartner h X (ix2 i c) = X (ix2 (partner p s i) c) := by
  have h32 : 2 ^ p ≤ 2 ^ 32 := Nat.pow_le_pow_right (by decide) (by omega)
  unfold rollPartner
  rw [select_apply, broadcastTo_rows, shapeCast_apply _ _ _ (ix2 i u0) rfl, rowClear_apply h32 (by omega)]
  by_cases hi : i.val &&& 2 ^ s = 0
  · rw [decide_eq_true hi]
    exact rotUp_apply h X i _ c (partner_val_of_clear hs i hi)
  · rw [decide_eq_false hi]
    have := partner_val_of_set hs i hi
    exact rotDown_apply h X i _ c (by omega)

/-- Bit `k` is the same at a row and its partner at a smaller distance. -/
theorem partner_and_above {p s k : Nat} (hs : s < p) (hk : s < k) (i : Fin (2 ^ p)) :
    (partner p s i).val &&& 2 ^ k = i.val &&& 2 ^ k := by
  rw [partner_val hs, Nat.and_xor_distrib_right]
  have : 2 ^ s &&& 2 ^ k = 0 := (and_two_pow_eq_zero_iff_testBit _ _).mpr (by rw [Nat.testBit_two_pow]; simp; omega)
  rw [this, Nat.xor_zero]

/-- The rotation form of a stage, on one column. -/
theorem col_rollStage {p s k m : Nat} (hs : s < p) (hk : s < k) (hp : p ≤ 31) (hk' : k ≤ 31) (h : m + 2 ^ s = 2 ^ p)
    (q : Pair Ideal (2 ^ p)) (c : Fin 128) :
    col (rollStage h (BitVec.ofNat 32 (2 ^ k)) q) c = Network.apply (stage p s fun i => decide (i.val &&& 2 ^ k = 0)) (col q c) := by
  have h32 : 2 ^ p ≤ 2 ^ 32 := Nat.pow_le_pow_right (by decide) (by omega)
  rw [stage_congr (w' := fun i => decide (i.val &&& 2 ^ s = 0) == decide (i.val &&& 2 ^ k = 0)) (fun i hi => by simp [hi])]
  funext i
  rw [apply_stage_select hs _ (fun j => ?_)]
  · have hkeep : rollKeep h (BitVec.ofNat 32 (2 ^ k)) q (ix2 i c) =
        BitVec.ofBool (decide (decide (col q c (partner p s i) < col q c i) = (decide (i.val &&& 2 ^ s = 0) == decide (i.val &&& 2 ^ k = 0)))) := by
      unfold rollKeep
      rw [broadcastTo_same]
      show (before _ _ _ _ (ix2 i c) ^^^ broadcastTo _ _ _ (ix2 i c)) ^^^ 1#1 = _
      rw [broadcastTo_rows, before_apply, rollPartner_apply hs hp, rollPartner_apply hs hp]
      show (_ ^^^ ((rowClear _ _ (ix2 i u0) ^^^ rowClear _ _ (ix2 i u0)) ^^^ 1#1)) ^^^ 1#1 = _
      rw [rowClear_apply h32 (by omega), rowClear_apply h32 (by omega)]
      show (BitVec.ofBool (decide (col q c (partner p s i) < col q c i)) ^^^ _) ^^^ 1#1 = _
      generalize decide (col q c (partner p s i) < col q c i) = A
      generalize decide (i.val &&& 2 ^ s = 0) = B
      generalize decide (i.val &&& 2 ^ k = 0) = C
      revert A B C; decide
    show ent (Scalar.select _ _ _) (Scalar.select _ _ _) = _
    rw [hkeep, rollPartner_apply hs hp, rollPartner_apply hs hp, ent_select]
    simp only [decide_eq_true_eq]
    rfl
  · show (decide ((partner p s j).val &&& 2 ^ s = 0) == decide ((partner p s j).val &&& 2 ^ k = 0)) = !_
    rw [partner_and_above hs hk]
    by_cases hj : j.val &&& 2 ^ s = 0
    · rw [partner_and hs j hj, hj]; simp
    · rw [partner_and_of_set hs j hj]
      generalize decide (j.val &&& 2 ^ k = 0) = C
      simp [hj]

/-! ## Groups of two pieces -/

section
variable {α : Type} {n g j : Nat} (h : g * 2 * j = n)

theorem piece_apply (o : Nat) (ho : o < 2) (X : (Blk n).Idx → α) (q : Fin g) (r : Fin j) (c : Fin 128) (i : Fin n)
    (hi : i.val = (q.val * 2 + o) * j + r.val) : piece h o ho X (ix3 q r c) = X (ix2 i c) := by
  unfold piece
  rw [shapeCast_apply _ _ _ (ix4 q u0 r c) (by
      rw [rowMajor_val_four, rowMajor_val_three]
      show ((q.val * 1 + 0) * j + r.val) * 128 + c.val = (q.val * j + r.val) * 128 + c.val
      rw [Nat.mul_one, Nat.add_zero]),
    extractStridedSlice_apply _ _ _ _ (ix4 q ⟨o, ho⟩ r c) (fun a => by
      match a with
      | ⟨0, _⟩ => (show q.val = 0 + q.val; omega)
      | ⟨1, _⟩ => rfl
      | ⟨2, _⟩ => (show r.val = 0 + r.val; omega)
      | ⟨3, _⟩ => (show c.val = 0 + c.val; omega))]
  exact shapeCast_apply _ _ _ (ix2 i c) (by
    rw [rowMajor_val_four, rowMajor_val_two]
    show i.val * 128 + c.val = ((q.val * 2 + o) * j + r.val) * 128 + c.val
    rw [hi])

theorem unpiece_apply (A : (Piece g j).Idx → α) (q : Fin g) (r : Fin j) (c : Fin 128) :
    shapeCast (Piece1 g j) A (casts_piece' g j) (ix4 q u0 r c) = A (ix3 q r c) :=
  shapeCast_apply _ _ _ (ix3 q r c) (by
      rw [rowMajor_val_four, rowMajor_val_three]
      show (q.val * j + r.val) * 128 + c.val = ((q.val * 1 + 0) * j + r.val) * 128 + c.val
      rw [Nat.mul_one, Nat.add_zero])

theorem joinPieces_low (A B : (Piece g j).Idx → α) (q : Fin g) (r : Fin j) (c : Fin 128) (i : Fin n)
    (hi : i.val = (q.val * 2 + 0) * j + r.val) : joinPieces h A B (ix2 i c) = A (ix3 q r c) := by
  unfold joinPieces
  rw [shapeCast_apply _ _ _ (ix4 q (0 : Fin 2) r c) (by
      rw [rowMajor_val_four, rowMajor_val_two]
      show ((q.val * 2 + 0) * j + r.val) * 128 + c.val = i.val * 128 + c.val
      rw [hi]),
    concatenate_pair_apply_left (t := Pieces g j) (s₁ := Piece1 g j) (s₂ := Piece1 g j) (1 : Fin 4) _ _ _ _ rfl (ix4 q u0 r c)
      (fun b => by match b with | ⟨0, _⟩ => rfl | ⟨1, _⟩ => rfl | ⟨2, _⟩ => rfl | ⟨3, _⟩ => rfl), unpiece_apply]

theorem joinPieces_high (A B : (Piece g j).Idx → α) (q : Fin g) (r : Fin j) (c : Fin 128) (i : Fin n)
    (hi : i.val = (q.val * 2 + 1) * j + r.val) : joinPieces h A B (ix2 i c) = B (ix3 q r c) := by
  unfold joinPieces
  rw [shapeCast_apply _ _ _ (ix4 q (1 : Fin 2) r c) (by
      rw [rowMajor_val_four, rowMajor_val_two]
      show ((q.val * 2 + 1) * j + r.val) * 128 + c.val = i.val * 128 + c.val
      rw [hi]),
    concatenate_pair_apply_right (t := Pieces g j) (s₁ := Piece1 g j) (s₂ := Piece1 g j) (1 : Fin 4) _ _ _ _ rfl rfl (ix4 q u0 r c)
      (fun b hb => by match b with | ⟨0, _⟩ => rfl | ⟨1, _⟩ => exact absurd rfl hb | ⟨2, _⟩ => rfl | ⟨3, _⟩ => rfl) rfl, unpiece_apply]

end

/-- A row with bit `s` clear is in the lower piece of its group. -/
theorem low_position {p s : Nat} (hs : s < p) (i : Fin (2 ^ p)) (hi : i.val &&& 2 ^ s = 0) :
    i.val / (2 * 2 ^ s) < 2 ^ p / (2 * 2 ^ s) ∧ i.val = (i.val / (2 * 2 ^ s) * 2 + 0) * 2 ^ s + i.val % 2 ^ s := by
  constructor
  · have := two_pow_split (rfl : 2 ^ p = 2 ^ p) hs
    refine Nat.div_lt_of_lt_mul ?_
    calc i.val < 2 ^ p := i.isLt
      _ = 2 ^ p / (2 * 2 ^ s) * 2 * 2 ^ s := this.symm
      _ = _ := by ring
  · have ht := (and_two_pow_eq_zero_iff_testBit _ _).mp hi
    rw [Nat.testBit_eq_decide_div_mod_eq] at ht
    have ht : i.val / 2 ^ s % 2 ≠ 1 := by simpa using ht
    rw [Nat.mul_comm 2 (2 ^ s), ← Nat.div_div_eq_div_mul]
    have h1 := Nat.div_add_mod i.val (2 ^ s)
    have h2 := Nat.div_add_mod (i.val / 2 ^ s) 2
    have h3 : i.val / 2 ^ s / 2 * 2 + 0 = i.val / 2 ^ s := by omega
    rw [h3, Nat.mul_comm]
    exact h1.symm

/-- Bit `k` of a row is bit `k - s - 1` of its group's number. -/
theorem group_bit {s k : Nat} (hk : s < k) (i : Nat) : (i &&& 2 ^ k = 0) ↔ (i / (2 * 2 ^ s) &&& 2 ^ (k - s - 1) = 0) := by
  rw [and_two_pow_eq_zero_iff_testBit, and_two_pow_eq_zero_iff_testBit, show 2 * 2 ^ s = 2 ^ (s + 1) by ring, Nat.testBit_div_two_pow,
    show k - s - 1 + (s + 1) = k by omega]

/-- The grouped form of a stage, on one column. -/
theorem col_pieceStage {p s k : Nat} (hs : s < p) (hk : s < k) (hp : p ≤ 31) (hk' : k ≤ 31) (h : 2 ^ p / (2 * 2 ^ s) * 2 * 2 ^ s = 2 ^ p)
    (q : Pair Ideal (2 ^ p)) (c : Fin 128) :
    col (pieceStage h (BitVec.ofNat 32 (2 ^ k / (2 * 2 ^ s))) q) c = Network.apply (stage p s fun i => decide (i.val &&& 2 ^ k = 0)) (col q c) := by
  have h32 : 2 ^ p ≤ 2 ^ 32 := Nat.pow_le_pow_right (by decide) (by omega)
  have hw : 2 ^ k / (2 * 2 ^ s) = 2 ^ (k - s - 1) := by
    rw [show 2 * 2 ^ s = 2 ^ (s + 1) by ring, Nat.pow_div (by omega) (by decide)]; congr 1
  -- a low row and its partner
  have both : ∀ i : Fin (2 ^ p), i.val &&& 2 ^ s = 0 →
      col (pieceStage h (BitVec.ofNat 32 (2 ^ k / (2 * 2 ^ s))) q) c i = Network.apply (stage p s fun i => decide (i.val &&& 2 ^ k = 0)) (col q c) i
      ∧ col (pieceStage h (BitVec.ofNat 32 (2 ^ k / (2 * 2 ^ s))) q) c (partner p s i)
        = Network.apply (stage p s fun i => decide (i.val &&& 2 ^ k = 0)) (col q c) (partner p s i) := by
    intro i hi
    obtain ⟨hq, hpos⟩ := low_position hs i hi
    have hpart := partner_val_of_clear hs i hi
    have hpos' : (partner p s i).val = (i.val / (2 * 2 ^ s) * 2 + 1) * 2 ^ s + i.val % 2 ^ s := by
      rw [hpart]; conv_lhs => rw [hpos]
      ring
    have hr : i.val % 2 ^ s < 2 ^ s := Nat.mod_lt _ (by positivity)
    have hswap : pieceSwap h (BitVec.ofNat 32 (2 ^ k / (2 * 2 ^ s))) q (ix3 ⟨_, hq⟩ ⟨_, hr⟩ c) =
        BitVec.ofBool (decide (col q c (partner p s i) < col q c i) ^^ decide (i.val &&& 2 ^ k = 0)) := by
      unfold pieceSwap
      rw [broadcastTo_same]
      show before _ _ _ _ (ix3 _ _ c) ^^^ broadcastTo _ _ _ (ix3 _ _ c) = _
      rw [broadcastTo_groups, before_apply, hw, groupClear_apply (by have := Nat.div_le_self (2 ^ p) (2 * 2 ^ s); omega) (by omega),
        piece_apply h 0 _ _ _ _ _ i hpos, piece_apply h 0 _ _ _ _ _ i hpos, piece_apply h 1 _ _ _ _ _ _ hpos', piece_apply h 1 _ _ _ _ _ _ hpos',
        decide_eq_decide.mpr (group_bit hk i.val)]
      show BitVec.ofBool (decide (col q c (partner p s i) < col q c i)) ^^^ _ = _
      generalize decide (col q c (partner p s i) < col q c i) = A
      generalize decide (i.val / (2 * 2 ^ s) &&& 2 ^ (k - s - 1) = 0) = B
      revert A B; decide
    obtain ⟨e1, e2⟩ := apply_stage hs (fun i => decide (i.val &&& 2 ^ k = 0)) (col q c) i hi
    rw [e1, e2]
    constructor
    · show ent (joinPieces h _ _ (ix2 i c)) (joinPieces h _ _ (ix2 i c)) = _
      rw [joinPieces_low h _ _ ⟨_, hq⟩ ⟨_, hr⟩ c i hpos, joinPieces_low h _ _ ⟨_, hq⟩ ⟨_, hr⟩ c i hpos, select_apply, select_apply, hswap, ent_select,
        piece_apply h 0 _ _ _ _ _ i hpos, piece_apply h 0 _ _ _ _ _ i hpos, piece_apply h 1 _ _ _ _ _ _ hpos', piece_apply h 1 _ _ _ _ _ _ hpos']
      show (if _ then col q c (partner p s i) else col q c i) = _
      by_cases hb : i.val &&& 2 ^ k = 0 <;> by_cases hlt : col q c (partner p s i) < col q c i <;> simp [hb, hlt]
      all_goals first | exact hlt.le | exact not_lt.mp hlt
    · show ent (joinPieces h _ _ (ix2 (partner p s i) c)) (joinPieces h _ _ (ix2 (partner p s i) c)) = _
      rw [joinPieces_high h _ _ ⟨_, hq⟩ ⟨_, hr⟩ c _ hpos', joinPieces_high h _ _ ⟨_, hq⟩ ⟨_, hr⟩ c _ hpos', select_apply, select_apply, hswap, ent_select,
        piece_apply h 0 _ _ _ _ _ i hpos, piece_apply h 0 _ _ _ _ _ i hpos, piece_apply h 1 _ _ _ _ _ _ hpos', piece_apply h 1 _ _ _ _ _ _ hpos']
      show (if _ then col q c i else col q c (partner p s i)) = _
      by_cases hb : i.val &&& 2 ^ k = 0 <;> by_cases hlt : col q c (partner p s i) < col q c i <;> simp [hb, hlt]
      all_goals first | exact hlt.le | exact not_lt.mp hlt
  funext i
  by_cases hi : i.val &&& 2 ^ s = 0
  · exact (both i hi).1
  · have := (both (partner p s i) (partner_and_of_set hs i hi)).2
    rwa [partner_partner hs] at this

/-- A stage of the kernel's network, on one column. -/
theorem col_netStage {p n : Nat} (hn : 2 ^ p = n) {k s : Nat} (hs : s < p) (hk : s < k) (hp : p ≤ 31) (hk' : k ≤ 31) (q : Pair Ideal n) (c : Fin 128) :
    (fun i : Fin (2 ^ p) => col (netStage hn k s hs q) c (i.cast hn))
      = Network.apply (stage p s fun i => decide (i.val &&& 2 ^ k = 0)) (fun i => col q c (i.cast hn)) := by
  subst hn
  unfold netStage
  split
  · exact col_rollStage hs hk hp hk' _ q c
  · exact col_pieceStage hs hk hp hk' _ q c

/-! ## Levels -/

/-- Lane `c` of a block, its rows counted as positions of the network. -/
def lane {p n : Nat} (hn : 2 ^ p = n) (q : Pair Ideal n) (c : Fin 128) (i : Fin (2 ^ p)) : Scored := col q c (i.cast hn)

theorem lane_netDown {p n : Nat} (hn : 2 ^ p = n) {k : Nat} (hp : p ≤ 31) (hk' : k ≤ 31) (c : Fin 128) :
    ∀ (s : Nat) (hs : s < p) (_ : s < k) (q : Pair Ideal n), lane hn (netDown hn k s hs q) c
      = Network.apply ((List.range (s + 1)).reverse.flatMap fun s => stage p s fun i => decide (i.val &&& 2 ^ k = 0)) (lane hn q c)
  | 0, hs, hk, q => by
    rw [show (List.range (0 + 1)).reverse = [0] from rfl, List.flatMap_cons, List.flatMap_nil, List.append_nil]
    exact col_netStage hn hs hk hp hk' q c
  | s + 1, hs, hk, q => by
    rw [List.range_succ, List.reverse_append, List.reverse_singleton, List.singleton_append, List.flatMap_cons, Network.apply_append]
    exact (lane_netDown hn hp hk' c s _ (Nat.lt_of_succ_lt hk) _).trans (congrArg _ (col_netStage hn hs hk hp hk' q c))

theorem lane_netLevels {p n : Nat} (hn : 2 ^ p = n) (hp : p ≤ 31) (c : Fin 128) :
    ∀ (l : Nat) (hl : l ≤ p) (q : Pair Ideal n), lane hn (netLevels hn l hl q) c = Network.apply (levelsNet p true l) (lane hn q c)
  | 0, _, _ => rfl
  | l + 1, hl, q => by
    rw [levelsNet_succ, Network.apply_append, ← lane_netLevels hn hp c l (Nat.le_of_succ_le hl) q]
    refine (lane_netDown hn hp (by omega) c l hl (Nat.lt_succ_self l) _).trans ?_
    unfold levelNet
    simp only [beq_true]

/-- The whole network leaves every lane in descending order. -/
theorem sorted_netLevels {p n : Nat} (hn : 2 ^ p = n) (hp : p ≤ 31) (q : Pair Ideal n) (c : Fin 128) :
    List.ofFn (col (netLevels hn p (Nat.le_refl p) q) c) = topList n (List.ofFn (col q c)) := by
  subst hn
  have e : col (netLevels rfl p (Nat.le_refl p) q) c = Network.apply (levelsNet p true p) (col q c) := lane_netLevels rfl hp c p (Nat.le_refl p) q
  have hanti : Antitone (Network.apply (levelsNet p true p) (col q c)) := by
    have h := (sortNet_levels p true (col q c) p (Nat.le_refl p) ⟨0, by positivity⟩).1 (by simp)
    intro i j hij
    have := @h i j hij
    simpa [chunkPos] using this
  obtain ⟨σ, hσ⟩ := Network.exists_perm (levelsNet p true p) (col q c)
  rw [e, ← topList_perm (l₁ := List.ofFn (Network.apply (levelsNet p true p) (col q c))), topList_eq_self]
  · exact List.pairwise_ofFn.mpr fun i j hij => hanti hij.le
  · rw [List.length_ofFn]
  · rw [hσ]; exact Equiv.Perm.ofFn_comp_perm σ (col q c)

end Cert.Net

end
-- ==== Proof.HostTop.lean ====
/- What the host's selection of the greatest elements of a row gives over the reals: the greatest entries of the row in
   the order "greater value first, then smaller position". -/
module

public import proofs.«01_k».proof.Proof.Columns
public import Idealize.ShloMosaic.Lib.SortNet.Positions

@[expose] public section

noncomputable section

namespace Cert.Net

open Idealize.ShloMosaic Idealize.ShloMosaic.Shape Idealize.ShloMosaic.ValueIdx Idealize.ShloMosaic.SortNet

theorem toInt_ofNat_lt {a b : Nat} (ha : a < 2 ^ 31) (hb : b < 2 ^ 31) : (BitVec.ofNat 32 a).toInt < (BitVec.ofNat 32 b).toInt ↔ a < b := by
  rw [BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  omega

/-- A row's values with their positions. -/
def rowEnt {n : Nat} (v : Fin n → EReal) (s : Fin n) : Scored := ent (v s) (BitVec.ofNat 32 s.val)

theorem rowEnt_lt {n : Nat} (hn : n ≤ 2 ^ 31) (v : Fin n → EReal) (a b : Fin n) :
    rowEnt v a < rowEnt v b ↔ v a < v b ∨ (v a = v b ∧ b < a) := by
  unfold rowEnt
  rw [ent_lt, toInt_ofNat_lt (by omega) (by omega)]
  rfl

theorem rowEnt_injective {n : Nat} (hn : n ≤ 2 ^ 31) (v : Fin n → EReal) : Function.Injective (rowEnt v) := by
  intro a b hab
  have h1 := (rowEnt_lt hn v a b).not.mp (by rw [hab]; exact lt_irrefl _)
  have h2 := (rowEnt_lt hn v b a).not.mp (by rw [hab]; exact lt_irrefl _)
  push Not at h1 h2
  have e : v a = v b := le_antisymm h2.1 h1.1
  exact le_antisymm (h1.2 e) (h2.2 e.symm)

/-- On positions in increasing order, sorting stably by value sorts by value and then by position. -/
theorem stableSort_by_value {n : Nat} (hn : n ≤ 2 ^ 31) (v : Fin n → EReal) : ∀ l : List (Fin n), l.Pairwise (· < ·) →
    stableSort (fun k k' => decide (v k' < v k)) l = stableSort (greaterFirst (rowEnt v)) l
  | [], _ => rfl
  | a :: l, hl => by
    rw [List.pairwise_cons] at hl
    unfold stableSort
    rw [stableSort_by_value hn v l hl.2]
    refine insertBefore_congr _ _ _ _ fun b hb => ?_
    have hab : a < b := hl.1 b ((perm_stableSort _ l).mem_iff.mp hb)
    unfold greaterFirst
    rw [decide_eq_decide, rowEnt_lt hn]
    exact ⟨.inl, fun h => h.elim id fun h => absurd hab h.2.asymm⟩

theorem sortedFrom_by_value {n : Nat} (hn : n ≤ 2 ^ 31) (v : Fin n → EReal) :
    sortedFrom (fun k k' : Fin n => decide (v k' < v k)) = sortedFrom (greaterFirst (rowEnt v)) := by
  funext k
  unfold sortedFrom sortPositions
  rw [List.get_of_eq (stableSort_by_value hn v _ (List.pairwise_lt_finRange n))]
  rfl

theorem along_last {T n : Nat} (a : Fin 1) (t : Fin T) (s k : Fin n) :
    Shape.Idx.along (s := ⟨3, ![1, T, n]⟩) (ix3 a t s) (2 : Fin 3) k = ix3 a t k := by
  funext b
  match b with
  | ⟨0, _⟩ => rfl
  | ⟨1, _⟩ => rfl
  | ⟨2, _⟩ => rfl

/-- Place `r` of the host's selection of row `t`. -/
theorem topK_row {T n k : Nat} (hn : n ≤ 2 ^ 31) (X : FVec Ideal ⟨3, ![1, T, n]⟩ .f32) (h : (⟨3, ![1, T, n]⟩ : Shape).Slices (fun _ => 0) ⟨3, ![1, T, k]⟩)
    (a : Fin 1) (t : Fin T) (r : Fin k) :
    some (ent ((Host.topK ⟨3, ![1, T, k]⟩ 2 (FloatOps.cmpfTotal .gt) X h).1 (ix3 a t r)) ((Host.topK ⟨3, ![1, T, k]⟩ 2 (FloatOps.cmpfTotal .gt) X h).2 (ix3 a t r)))
      = (topList k (List.ofFn (rowEnt fun s : Fin n => X (ix3 a t s))))[r.val]? := by
  have hk : k ≤ n := by have := h.2 2; simpa using this
  rw [← entry_sortedFrom_eq_topList _ (rowEnt_injective hn _) k ⟨r.val, by omega⟩ r.isLt, ← sortedFrom_by_value hn]
  have hslice : ∀ b : Fin 3, ((ix3 a t (⟨r.val, by omega⟩ : Fin n) : (⟨3, ![1, T, n]⟩ : Shape).Idx) b).val
      = (fun _ => 0 : Fin 3 → Nat) b + ((ix3 a t r : (⟨3, ![1, T, k]⟩ : Shape).Idx) b).val := fun b => by
    match b with
    | ⟨0, _⟩ => exact (Nat.zero_add _).symm
    | ⟨1, _⟩ => exact (Nat.zero_add _).symm
    | ⟨2, _⟩ => exact (Nat.zero_add _).symm
  unfold Host.topK
  dsimp only
  rw [extractStridedSlice_apply _ _ _ _ (ix3 a t (⟨r.val, by omega⟩ : Fin n)) hslice,
    extractStridedSlice_apply _ _ _ _ (ix3 a t (⟨r.val, by omega⟩ : Fin n)) hslice]
  have hlt : (2 : Nat) < (⟨3, ![1, T, n]⟩ : Shape).rank := by show 2 < 3; omega
  unfold Host.sort2
  simp only [dif_pos hlt]
  have hp : ∀ k k' : Fin n, (FloatOps.cmpfTotal (F := Ideal) (φ := .f32) .gt (X (ix3 a t k)) (X (ix3 a t k')) == 1#1) = decide (X (ix3 a t k') < X (ix3 a t k)) := by
    intro k k'
    show (BitVec.ofBool (decide (X (ix3 a t k') < X (ix3 a t k))) == 1#1) = _
    cases decide (X (ix3 a t k') < X (ix3 a t k)) <;> rfl
  have hs : sortedFrom (fun k k' : Fin n => FloatOps.cmpfTotal (F := Ideal) (φ := .f32) .gt
        (X (Shape.Idx.along (s := ⟨3, ![1, T, n]⟩) (ix3 a t (⟨r.val, by omega⟩ : Fin n)) (2 : Fin 3) k))
        (X (Shape.Idx.along (s := ⟨3, ![1, T, n]⟩) (ix3 a t (⟨r.val, by omega⟩ : Fin n)) (2 : Fin 3) k')) == 1#1)
      = sortedFrom (fun k k' : Fin n => decide (X (ix3 a t k') < X (ix3 a t k))) := by
    congr 1
    funext k k'
    rw [along_last, along_last, hp]
  congr 1
  unfold rowEnt
  congr 1
  · refine congrArg X ((along_last a t _ _).trans (congrArg (ix3 a t) ?_))
    exact congrFun hs _
  · exact congrArg (fun s : Fin n => BitVec.ofNat 32 s.val) (congrFun hs _)

end Cert.Net

end
-- ==== Proof.RefRead.lean ====
/- The reference's masked score matrix read at one place, and its sorted rows set beside the kernel's sorted columns. -/
module

public import proofs.«01_k».proof.Proof.ScoreRead
public import proofs.«01_k».proof.Proof.HostTop

@[expose] public section

noncomputable section

namespace Cert.Net

open Idealize.ShloMosaic Idealize.ShloMosaic.Shape Idealize.ShloMosaic.ValueIdx Idealize.ShloMosaic.SortNet
open scoped BigOperators

/-- The shape of the weights, a row of sixteen for each query. -/
abbrev AllWeights : Shape := ⟨3, ![1, 2048, 16]⟩
/-- The shape of all heads' scores. -/
abbrev AllHeads : Shape := ⟨4, ![1, 16, 2048, 2048]⟩
/-- The shape of all scores. -/
abbrev AllScores : Shape := ⟨3, ![1, 2048, 2048]⟩
/-- The shape of the causal mask. -/
abbrev Square : Shape := ⟨2, ![2048, 2048]⟩
/-- The shape of one number. -/
abbrev One : Shape := ⟨0, ![]⟩

/-- The sum over the heads that mixes them: weights times scores, query by query. -/
def mixDims (wf : DotDims.WF AllWeights AllHeads AllScores [2] [1] [] [3] [0, 1] [0, 2]) : DotDims AllWeights AllHeads AllScores where
  lhsContracting := [2]
  rhsContracting := [1]
  lhsNonContracting := []
  rhsNonContracting := [3]
  lhsBatch := [0, 1]
  rhsBatch := [0, 2]
  wf := wf

theorem mix_apply (wf : DotDims.WF AllWeights AllHeads AllScores [2] [1] [] [3] [0, 1] [0, 2]) (W : FVec Ideal AllWeights .f32)
    (R : FVec Ideal AllHeads .f32) (t s : Fin 2048) :
    Host.dotGeneral (mixDims wf) none W R (ix3 (0 : Fin 1) t s)
      = ∑ h : Fin 16, (W (ix3 (0 : Fin 1) t h) : EReal) * R (ix4 (0 : Fin 1) h t s) := by
  have hr : (mixDims wf).contr.rank = 1 := rfl
  have hs : (mixDims wf).contr.size ⟨0, by rw [hr]; exact Nat.one_pos⟩ = 16 := rfl
  refine (Ideal.dotGeneral_apply (mixDims wf) none _ W R _).trans ?_
  rw [← Equiv.sum_comp (contrEquiv1 (mixDims wf) 16 hr hs).symm]
  refine Finset.sum_congr rfl fun k _ => ?_
  have hk := contrEquiv1_symm_val (mixDims wf) 16 hr hs k
  have el : (mixDims wf).lhsIdx (ix3 (0 : Fin 1) t s) ((contrEquiv1 (mixDims wf) 16 hr hs).symm k) = ix3 (0 : Fin 1) t k := by
    funext a; apply Fin.ext
    match a with
    | ⟨0, _⟩ => rfl
    | ⟨1, _⟩ => rfl
    | ⟨2, _⟩ => exact hk
  have er : (mixDims wf).rhsIdx (ix3 (0 : Fin 1) t s) ((contrEquiv1 (mixDims wf) 16 hr hs).symm k) = ix4 (0 : Fin 1) k t s := by
    funext a; apply Fin.ext
    match a with
    | ⟨0, _⟩ => rfl
    | ⟨1, _⟩ => exact hk
    | ⟨2, _⟩ => rfl
    | ⟨3, _⟩ => rfl
  rw [el, er]

section
variable {F : FTy → Type} [FloatOps F]
variable (wf : DotDims.WF AllWeights AllHeads AllScores [2] [1] [] [3] [0, 1] [0, 2])
  (h1 : Square.BroadcastsInDim AllScores ![1, 2]) (h2 : One.BroadcastsInDim Square ![]) (h3 : One.BroadcastsInDim AllScores ![])
  (fill : BitVec 32)

/-- The reference's masked scores, from the weights and the heads' scores. -/
def maskedScores (W : FVec F AllWeights .f32) (R : FVec F AllHeads .f32) : FVec F AllScores .f32 :=
  select (broadcastInDim AllScores ![1, 2] h1 (select (cmpi .sge (addi (iotaInDim Square 32 0) (broadcastInDim Square ![] h2 (constantI One 32 0#32)))
      (iotaInDim Square 32 1)) (broadcastInDim Square ![] h2 (constantI One 1 1#1)) (broadcastInDim Square ![] h2 (constantI One 1 0#1))))
    (Host.divf (Host.dotGeneral (mixDims wf) none W R) (broadcastInDim AllScores ![] h3 (Host.sqrt (constant One .f32 0x42800000#32))))
    (broadcastInDim AllScores ![] h3 (constant One .f32 fill))

/-- **The reference's masked score of a query and a key.** -/
theorem maskedScores_apply (W : FVec Ideal AllWeights .f32) (R : FVec Ideal AllHeads .f32) (t s : Fin 2048) :
    maskedScores wf h1 h2 h3 fill W R (ix3 (0 : Fin 1) t s) = if s.val ≤ t.val then
      mixed (fun h => W (ix3 (0 : Fin 1) t h)) (fun h => R (ix4 (0 : Fin 1) h t s)) else Ideal.ofBits .f32 fill := by
  have hc : (select (cmpi .sge (addi (iotaInDim Square 32 0) (broadcastInDim Square ![] h2 (constantI One 32 0#32)))
      (iotaInDim Square 32 1)) (broadcastInDim Square ![] h2 (constantI One 1 1#1)) (broadcastInDim Square ![] h2 (constantI One 1 0#1)) (ix2 t s) : BitVec 1)
      = BitVec.ofBool (decide (s.val ≤ t.val)) := by
    show (if BitVec.ofBool ((BitVec.ofNat 32 s.val).sle (BitVec.ofNat 32 t.val + 0#32)) = 1#1 then 1#1 else 0#1) = _
    have hs := s.isLt
    have ht := t.isLt
    have e : (BitVec.ofNat 32 s.val).sle (BitVec.ofNat 32 t.val + 0#32) = decide (s.val ≤ t.val) := by
      rw [BitVec.add_zero, BitVec.sle_eq_decide]
      congr 1
      rw [BitVec.toInt_eq_toNat_of_lt (by simp; omega), BitVec.toInt_eq_toNat_of_lt (by simp; omega)]
      simp
      omega
    rw [e]
    by_cases h : s.val ≤ t.val <;> simp [h]
  have hb : broadcastInDim AllScores ![1, 2] h1 (select (cmpi .sge (addi (iotaInDim Square 32 0) (broadcastInDim Square ![] h2 (constantI One 32 0#32)))
      (iotaInDim Square 32 1)) (broadcastInDim Square ![] h2 (constantI One 1 1#1)) (broadcastInDim Square ![] h2 (constantI One 1 0#1))) (ix3 (0 : Fin 1) t s)
      = BitVec.ofBool (decide (s.val ≤ t.val)) := by
    rw [broadcastInDim_apply _ _ _ _ (ix2 t s) (fun a => by fin_cases a <;> rfl), hc]
  have hd : Host.divf (Host.dotGeneral (mixDims wf) none W R) (broadcastInDim AllScores ![] h3 (Host.sqrt (constant One .f32 0x42800000#32))) (ix3 (0 : Fin 1) t s)
      = mixed (fun h => W (ix3 (0 : Fin 1) t h)) (fun h => R (ix4 (0 : Fin 1) h t s)) := by
    show Ideal.div (Host.dotGeneral (mixDims wf) none W R (ix3 (0 : Fin 1) t s)) (Ideal.sqrt (Ideal.ofBits .f32 0x42800000#32)) = _
    rw [div_root, mix_apply, mixed_eq]
  refine (congrArg₂ (fun b (v : EReal) => Scalar.select b v (Ideal.ofBits .f32 fill)) hb hd).trans ?_
  by_cases h : s.val ≤ t.val
  · simp only [h, decide_true, if_true]; rfl
  · simp only [h, decide_false, if_false]; rfl

end

/-! ## Rows and columns -/

/-- Keys of the least score after the first `n ≥ k` do not count among the `k` best. -/
theorem best_of_front {k n N : Nat} (hn : n ≤ N) (hN : N ≤ 2 ^ 31) (hk : k ≤ n) (X : Fin N → EReal) (hX : ∀ s : Fin N, n ≤ s.val → X s = ⊥) :
    topList k (List.ofFn (rowEnt X)) = topList k (List.ofFn (rowEnt fun s : Fin n => X (s.castLE hn))) := by
  obtain ⟨d, rfl⟩ := Nat.exists_eq_add_of_le hn
  rw [List.ofFn_add]
  refine topList_append_of_le k _ _ (by rw [List.length_ofFn]; exact hk) fun s hs a ha => ?_
  obtain ⟨j, rfl⟩ := List.mem_ofFn.mp hs
  obtain ⟨i, rfl⟩ := List.mem_ofFn.mp (mem_of_mem_topList ha)
  refine le_of_lt ((rowEnt_lt hN X (Fin.natAdd n j) (i.castLE hn)).mpr ?_)
  rw [hX (Fin.natAdd n j) (by simp)]
  rcases bot_le.lt_or_eq (a := (⊥ : EReal)) (b := X (i.castLE hn)) with h | h
  · exact .inl h
  · exact .inr ⟨h, by rw [Fin.lt_def]; simp; omega⟩

theorem ent_injective {v w : EReal} {x y : BitVec 32} (h : ent v x = ent w y) : v = w ∧ x = y := by
  have h' := toLex.injective h
  exact ⟨congrArg Prod.fst h', BitVec.eq_of_toInt_eq (OrderDual.toDual.injective (congrArg Prod.snd h'))⟩

/-- **A kernel column that lists a row's best entries holds what the host's selection of that row holds.** -/
theorem column_eq_row {n : Nat} (h : AllScores.Slices (fun _ => 0) ⟨3, ![1, 2048, 512]⟩) (X : FVec Ideal AllScores .f32) (q : Pair Ideal 512) (c : Fin 128) (t : Fin 2048)
    (hn : n ≤ 2048) (hk : 512 ≤ n) (hX : ∀ s : Fin 2048, n ≤ s.val → X (ix3 (0 : Fin 1) t s) = (⊥ : EReal))
    (hq : List.ofFn (col q c) = topList 512 (List.ofFn (rowEnt fun s : Fin n => X (ix3 (0 : Fin 1) t (s.castLE hn))))) (r : Fin 512) :
    q.1 (ix2 r c) = (Host.topK ⟨3, ![1, 2048, 512]⟩ 2 (FloatOps.cmpfTotal .gt) X h).1 (ix3 (0 : Fin 1) t r)
      ∧ q.2 (ix2 r c) = (Host.topK ⟨3, ![1, 2048, 512]⟩ 2 (FloatOps.cmpfTotal .gt) X h).2 (ix3 (0 : Fin 1) t r) := by
  refine ent_injective (Option.some.inj ?_)
  rw [topK_row (by norm_num) X h 0 t r, best_of_front hn (by norm_num) hk _ hX, ← hq]
  rw [List.getElem?_ofFn]
  simp [col]

/-- The rows from `o` on, cut into blocks of 128 and every block turned, read at one place. -/
theorem turned_rows {α : Type} {o N b : Nat} (hN : N = b * 128) (X : (⟨3, ![1, 2048, 512]⟩ : Shape).Idx → α)
    (g1 : (⟨3, ![1, 2048, 512]⟩ : Shape).Slices ![0, o, 0] ⟨3, ![1, N, 512]⟩) (g2 : (⟨3, ![1, N, 512]⟩ : Shape).ShapeCasts ⟨2, ![N, 512]⟩)
    (g3 : (⟨2, ![N, 512]⟩ : Shape).ShapeCasts ⟨3, ![b, 128, 512]⟩) (g4 : (⟨3, ![b, 128, 512]⟩ : Shape).Transposes [0, 2, 1] ⟨3, ![b, 512, 128]⟩)
    (t : Fin b) (r : Fin 512) (a : Fin 128) (T : Fin 2048) (hT : T.val = o + (128 * t.val + a.val)) :
    transpose ⟨3, ![b, 512, 128]⟩ [0, 2, 1] (shapeCast ⟨3, ![b, 128, 512]⟩ (shapeCast ⟨2, ![N, 512]⟩ (extractStridedSlice ⟨3, ![1, N, 512]⟩ ![0, o, 0] X g1) g2) g3) g4
      (ix3 t r a) = X (ix3 (0 : Fin 1) T r) := by
  have hlt : 128 * t.val + a.val < N := by have := t.isLt; have := a.isLt; omega
  rw [transpose_ix3_021_apply, shapeCast_apply _ g3 _ (ix2 (⟨128 * t.val + a.val, hlt⟩ : Fin N) r) (by
    rw [Shape.rowMajor_val_three, Shape.rowMajor_val_two]
    show (128 * t.val + a.val) * 512 + r.val = (t.val * 128 + a.val) * 512 + r.val
    rw [Nat.mul_comm 128]), shapeCast_1ab_ab_apply]
  refine extractStridedSlice_apply _ _ _ _ _ fun d => ?_
  match d with
  | ⟨0, _⟩ => rfl
  | ⟨1, _⟩ => exact hT
  | ⟨2, _⟩ => exact (Nat.zero_add _).symm

end Cert.Net

end
-- ==== Proof.HostA.lean ====
/- The host's part of the first call (blocks of 512 keys) and of its reference: both compute the same weights and the
   same scores of the heads. -/
module

public import proofs.«01_k».proof.Proof.Gen.KernelAIdeal.Value
public import proofs.«01_k».proof.Proof.Gen.ReferenceAIdeal.Run
public import proofs.«01_k».proof.Proof.RefRead

@[expose] public section

noncomputable section

namespace Cert.NetA

open Idealize.ShloMosaic Idealize.ShloMosaic.TcCoe Cert.Net

/-- The reference's selection of the best keys, from the weights and the heads' scores. -/
abbrev best (W : FVec Ideal AllWeights .f32) (R : FVec Ideal AllHeads .f32) :=
  Host.topK (⟨3, ![1, 2048, 512]⟩ : Shape) 2 (FloatOps.cmpfTotal .gt)
    (maskedScores Cert.ReferenceAIdeal.Facts₀.dot_S1x2048x16_S1x16x2048x2048_S1x2048x2048_2_1_n_3_01_02_wf
      Cert.ReferenceAIdeal.Facts₀.bcast_S2048x2048_S1x2048x2048_1_2 Cert.ReferenceAIdeal.Facts₀.bcast_S_S2048x2048
      Cert.ReferenceAIdeal.Facts₀.bcast_S_S1x2048x2048 0xFF800000#32 W R) Cert.ReferenceAIdeal.Facts₀.sliceFits_S1x2048x2048_S1x2048x512

theorem host_agree (m : (ℓ : Loc Cert.KernelAIdeal.nD Cert.KernelAIdeal.τ Cert.KernelAIdeal.sig) → Buf (Elt Ideal) ℓ)
    (m' : (ℓ : Loc Cert.ReferenceAIdeal.nD Cert.ReferenceAIdeal.τ Cert.ReferenceAIdeal.sig) → Buf (Elt Ideal) ℓ) (c : Dev Cert.KernelAIdeal.nD)
    (e0 : m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0))
    (e1 : m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1))
    (e2 : m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2))
    (e3 : m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)) :
    ∃ (W : FVec Ideal AllWeights .f32) (R : FVec Ideal AllHeads .f32),
      Cert.ReferenceAIdeal.Value.res_main_v63 m' c = transpose Cert.ReferenceAIdeal.S4x512x128 [0, 2, 1] (shapeCast Cert.ReferenceAIdeal.S4x128x512 (shapeCast Cert.ReferenceAIdeal.S512x512
          (extractStridedSlice Cert.ReferenceAIdeal.S1x512x512 ![0, 0, 0] (best W R).1 Cert.ReferenceAIdeal.Facts₀.slices_S1x2048x512_S1x512x512_0_0_0)
          Cert.ReferenceAIdeal.Facts₀.shapeCasts_S1x512x512_S512x512) Cert.ReferenceAIdeal.Facts₀.shapeCasts_S512x512_S4x128x512) Cert.ReferenceAIdeal.Facts₀.transposes_S4x128x512_S4x512x128_0_2_1
      ∧ Cert.ReferenceAIdeal.Value.res_main_v67 m' c = transpose Cert.ReferenceAIdeal.S4x512x128 [0, 2, 1] (shapeCast Cert.ReferenceAIdeal.S4x128x512 (shapeCast Cert.ReferenceAIdeal.S512x512
          (extractStridedSlice Cert.ReferenceAIdeal.S1x512x512 ![0, 0, 0] (best W R).2 Cert.ReferenceAIdeal.Facts₀.slices_S1x2048x512_S1x512x512_0_0_0)
          Cert.ReferenceAIdeal.Facts₀.shapeCasts_S1x512x512_S512x512) Cert.ReferenceAIdeal.Facts₀.shapeCasts_S512x512_S4x128x512) Cert.ReferenceAIdeal.Facts₀.transposes_S4x128x512_S4x512x128_0_2_1
      ∧ Cert.KernelAIdeal.Gen.V m c Cert.KernelAIdeal.main_v52 = R
      ∧ Cert.KernelAIdeal.Gen.V m c Cert.KernelAIdeal.main_v54 = shapeCast Cert.KernelAIdeal.S2048x16 W Cert.KernelAIdeal.Facts₀.shapeCasts_S1x2048x16_S2048x16 := by
  unfold Cert.ReferenceAIdeal.Value.res_main_v63 Cert.ReferenceAIdeal.Value.res_main_v67
  rw [e0, e1, e2, e3]
  refine ⟨_, _, rfl, rfl, ?_, ?_⟩
  all_goals
    simp only [Cert.KernelAIdeal.Gen.V, Cert.KernelAIdeal.Gen.hostOps0, Cert.KernelAIdeal.Gen.hostOps0_1, Cert.KernelAIdeal.Gen.hostOps0_2, List.flatten_cons,
      List.flatten_nil, List.append_nil, List.cons_append, List.nil_append, StableHlo.TRef.binary, StableHlo.TRef.nullary, StableHlo.TRef.ternary,
      StableHlo.TRef.unary, StableHlo.TRef.toBuf, StableHlo.TRef.ofBuf, cast_eq]
    after_results_simp
    try dsimp only [Matrix.cons_val]
    try after_results_simp
    rfl

end Cert.NetA

end
-- ==== Proof.FinalA.lean ====
/- The first call's results: block by block its columns hold the best 512 keys of the reference's rows. -/
module

public import proofs.«01_k».proof.Proof.LinkA
public import proofs.«01_k».proof.Proof.HostA
public import proofs.«01_k».proof.Proof.Columns
public import Idealize.ShloMosaic.Lib.WholeRead

@[expose] public section

set_option maxRecDepth 65536

noncomputable section

namespace Cert.NetA

open Cert.KernelAIdeal Cert.KernelAIdeal.Gen Idealize.ShloMosaic Idealize.ShloMosaic.TcCoe Idealize.ShloMosaic.ValueIdx Idealize.ShloMosaic.SortNet Cert.Net

/-! ## One block -/

section
variable (c : Dev nD) (i : grid0.Coords) (arg1 : Memref sig .tc .vmem S1x16x128x512 .bf16) (harg1 : arg1.IsWhole)
  (arg2 : Memref sig .tc .vmem S128x16 .bf16) (harg2 : arg2.IsWhole) (arg3 : Memref sig .tc .vmem S1x512x128 .f32) (harg3 : arg3.IsWhole)
  (arg4 : Memref sig .tc .vmem S1x512x128 .i32) (harg4 : arg4.IsWhole) (arg5 : Memref sig .tc .vmem S8x128 .f32) (harg5 : arg5.IsWhole)
  (x0 : Vec Ideal S1x16x128x512 .bf16) (x1 : Vec Ideal S128x16 .bf16)

theorem zero3 : (![0, 0, 0] : Fin 3 → Nat) = fun _ => 0 := funext fun a => by fin_cases a <;> rfl

/-- The sorted block of scores and keys. -/
abbrev sorted : Pair Ideal 512 := netLevels (p := 9) (n := 512) rfl 9 (Nat.le_refl 9) (start i arg1 harg1 arg2 harg2 x0 x1)

theorem out_values : out0_A_2 c i arg1 harg1 arg2 harg2 arg3 harg3 arg4 harg4 arg5 harg5 x0 x1
    = shapeCast S1x512x128 (sorted i arg1 harg1 arg2 harg2 x0 x1).1 shapeCasts_S512x128_S1x512x128 := by
  unfold out0_A_2
  rw [View.read_writes_junk_eq_canon, stored_values]
  exact View.canon_unit_zero (S := S1x512x128) zero3 _ _

theorem out_keys : out0_A_3 c i arg1 harg1 arg2 harg2 arg3 harg3 arg4 harg4 arg5 harg5 x0 x1
    = shapeCast S1x512x128 (sorted i arg1 harg1 arg2 harg2 x0 x1).2 shapeCasts_S512x128_S1x512x128 := by
  unfold out0_A_3
  rw [View.read_writes_junk_eq_canon, stored_keys]
  exact View.canon_unit_zero (S := S1x512x128) zero3 _ _

theorem headLoad_apply (h : Nat) (hh : h < 16) (a : Fin 128) (s : Fin 512) :
    headLoad arg1 harg1 x0 h hh (ix4 (0 : Fin 1) (0 : Fin 1) a s) = x0 (ix4 (0 : Fin 1) ⟨h, hh⟩ a s) := by
  unfold headLoad
  rw [Memref.IsWhole.readAt_unread]
  refine congrArg x0 (funext fun d => Fin.ext ?_)
  match d with
  | ⟨0, _⟩ => rfl
  | ⟨1, _⟩ => rfl
  | ⟨2, _⟩ => show 0 + 1 * a.val = a.val; omega
  | ⟨3, _⟩ => show 0 + 1 * s.val = s.val; omega

theorem weightLoad_apply (a : Fin 128) (h : Fin 16) : weightLoad arg2 harg2 x1 (ix2 a h) = x1 (ix2 a h) := by
  unfold weightLoad
  rw [Memref.IsWhole.readAt_unread]
  refine congrArg x1 (funext fun d => Fin.ext ?_)
  match d with
  | ⟨0, _⟩ => show 0 + 1 * a.val = a.val; omega
  | ⟨1, _⟩ => show 0 + 1 * h.val = h.val; omega

/-- The reference's masked scores. -/
abbrev refScores (W : FVec Ideal AllWeights .f32) (R : FVec Ideal AllHeads .f32) : FVec Ideal AllScores .f32 :=
  maskedScores Cert.ReferenceAIdeal.Facts₀.dot_S1x2048x16_S1x16x2048x2048_S1x2048x2048_2_1_n_3_01_02_wf
    Cert.ReferenceAIdeal.Facts₀.bcast_S2048x2048_S1x2048x2048_1_2 Cert.ReferenceAIdeal.Facts₀.bcast_S_S2048x2048
    Cert.ReferenceAIdeal.Facts₀.bcast_S_S1x2048x2048 0xFF800000#32 W R

theorem refScores_apply (W : FVec Ideal AllWeights .f32) (R : FVec Ideal AllHeads .f32) (t s : Fin 2048) :
    refScores W R (ix3 (0 : Fin 1) t s) = if s.val ≤ t.val then
      mixed (fun h => W (ix3 (0 : Fin 1) t h)) (fun h => R (ix4 (0 : Fin 1) h t s)) else Ideal.ofBits .f32 0xFF800000#32 :=
  maskedScores_apply _ _ _ _ _ W R t s

theorem least_word : Ideal.ofBits .f32 0xFF800000#32 = ⊥ := by simp [Ideal.ofBits, Ideal.ieee]

/-- Before it is sorted, a column of the block holds the scores of the reference's row. -/
theorem start_column (W : FVec Ideal AllWeights .f32) (R : FVec Ideal AllHeads .f32) (a : Fin 128) (T : Fin 2048) (hT : T.val = 128 * (i 0).val + a.val)
    (hx0 : ∀ (h : Fin 16) (s : Fin 512), x0 (ix4 (0 : Fin 1) h a s) = R (ix4 (0 : Fin 1) h T (s.castLE (by decide))))
    (hx1 : ∀ h : Fin 16, x1 (ix2 a h) = W (ix3 (0 : Fin 1) T h)) :
    col (start i arg1 harg1 arg2 harg2 x0 x1) a = rowEnt fun s : Fin 512 => refScores W R (ix3 (0 : Fin 1) T (s.castLE (by decide))) := by
  have hi : (i 0).val < 4 := (i 0).isLt
  have hb : kernelRun0_A.sl.v0 i = BitVec.ofNat 32 (i 0).val := BitVec.add_zero _
  funext s
  refine congrArg₂ ent ?_ (by show BitVec.ofNat 32 (0 * 512 + s.val) = _; rw [Nat.zero_mul, Nat.zero_add])
  show scoreBlock (kernelRun0_A.sl.v0 i) _ _ _ (ix2 s a) = _
  rw [hb, scoreBlock_apply (by decide) _ (by omega)]
  refine Eq.trans ?_ (refScores_apply W R T (s.castLE (by decide))).symm
  rw [least_word, hT]
  refine if_congr Iff.rfl ?_ rfl
  refine congrArg₂ mixed (funext fun h => ?_) (funext fun h => ?_)
  · rw [weightLoad_apply, hx1]
  · rw [headLoad_apply, hx0]

/-- **The sorted column holds what the reference's selection of that row holds.** -/
theorem sorted_column (W : FVec Ideal AllWeights .f32) (R : FVec Ideal AllHeads .f32) (a : Fin 128) (T : Fin 2048) (hT : T.val = 128 * (i 0).val + a.val)
    (hx0 : ∀ (h : Fin 16) (s : Fin 512), x0 (ix4 (0 : Fin 1) h a s) = R (ix4 (0 : Fin 1) h T (s.castLE (by decide))))
    (hx1 : ∀ h : Fin 16, x1 (ix2 a h) = W (ix3 (0 : Fin 1) T h)) (r : Fin 512) :
    (sorted i arg1 harg1 arg2 harg2 x0 x1).1 (ix2 r a) = (best W R).1 (ix3 (0 : Fin 1) T r)
      ∧ (sorted i arg1 harg1 arg2 harg2 x0 x1).2 (ix2 r a) = (best W R).2 (ix3 (0 : Fin 1) T r) := by
  have hi : (i 0).val < 4 := (i 0).isLt
  refine column_eq_row (n := 512) _ (refScores W R) _ a T (by decide) (Nat.le_refl _) (fun s hs => ?_) ?_ r
  · rw [refScores_apply, if_neg (by omega), least_word]
  · rw [sorted_netLevels rfl (by decide), start_column i arg1 harg1 arg2 harg2 x0 x1 W R a T hT hx0 hx1]
    rfl

end

/-! ## The arrays -/

section
variable (m : (ℓ : Loc nD τ sig) → Buf (Elt Ideal) ℓ)

theorem points : ∀ t : Fin cfg0.N, (grid0.coords t 0).val = t.val ∧ win0_0.index t 0 = 0 ∧ win0_0.index t 1 = 0 ∧ win0_0.index t 2 = t.val ∧ win0_0.index t 3 = 0
    ∧ win0_1.index t 0 = t.val ∧ win0_1.index t 1 = 0 ∧ win0_2.index t 0 = t.val ∧ win0_2.index t 1 = 0 ∧ win0_2.index t 2 = 0
    ∧ win0_3.index t 0 = t.val ∧ win0_3.index t 1 = 0 ∧ win0_3.index t 2 = 0 :=
  (by decide +kernel : ∀ t : Fin grid0.N, (grid0.coords t 0).val = t.val ∧ win0_0.index t 0 = 0 ∧ win0_0.index t 1 = 0 ∧ win0_0.index t 2 = t.val ∧ win0_0.index t 3 = 0
    ∧ win0_1.index t 0 = t.val ∧ win0_1.index t 1 = 0 ∧ win0_2.index t 0 = t.val ∧ win0_2.index t 1 = 0 ∧ win0_2.index t 2 = 0
    ∧ win0_3.index t 0 = t.val ∧ win0_3.index t 1 = 0 ∧ win0_3.index t 2 = 0)

theorem block_heads (c : Dev nD) (t : Fin cfg0.N) (R : FVec Ideal AllHeads .f32) (hR : V m c main_v52 = R) (a : Fin 128) (T : Fin 2048)
    (hT : T.val = 128 * t.val + a.val) (h : Fin 16) (s : Fin 512) :
    iblk m c 0 t (ix4 (0 : Fin 1) h a s) = R (ix4 (0 : Fin 1) h T (s.castLE (by decide))) := by
  obtain ⟨-, p0, p1, p2, p3, -⟩ := points t
  unfold iblk
  rw [View.read_apply]
  refine Eq.trans ?_ (congrFun hR _)
  show V m c main_v52 _ = V m c main_v52 _
  refine congrArg (V m c main_v52) (funext fun d => Fin.ext ?_)
  match d with
  | ⟨0, _⟩ => show win0_0.index t 0 * 1 + 1 * 0 = 0; rw [p0]
  | ⟨1, _⟩ => show win0_0.index t 1 * 16 + 1 * h.val = h.val; rw [p1]; omega
  | ⟨2, _⟩ => show win0_0.index t 2 * 128 + 1 * a.val = T.val; rw [p2, hT]; omega
  | ⟨3, _⟩ => show win0_0.index t 3 * 512 + 1 * s.val = s.val; rw [p3]; omega

theorem block_weights (c : Dev nD) (t : Fin cfg0.N) (W : FVec Ideal AllWeights .f32) (hW : V m c main_v54 = shapeCast S2048x16 W Facts₀.shapeCasts_S1x2048x16_S2048x16)
    (a : Fin 128) (T : Fin 2048) (hT : T.val = 128 * t.val + a.val) (h : Fin 16) :
    iblk m c 1 t (ix2 a h) = W (ix3 (0 : Fin 1) T h) := by
  obtain ⟨-, -, -, -, -, p0, p1, -⟩ := points t
  unfold iblk
  rw [View.read_apply]
  refine Eq.trans ?_ ((congrFun hW (ix2 T h)).trans (shapeCast_1ab_ab_apply W _ T h))
  show V m c main_v54 _ = V m c main_v54 _
  refine congrArg (V m c main_v54) (funext fun d => Fin.ext ?_)
  match d with
  | ⟨0, _⟩ => show win0_1.index t 0 * 128 + 1 * a.val = T.val; rw [p0, hT]; omega
  | ⟨1, _⟩ => show win0_1.index t 1 * 16 + 1 * h.val = h.val; rw [p1]; omega

variable (c : Dev nD) (W : FVec Ideal AllWeights .f32) (R : FVec Ideal AllHeads .f32) (hR : V m c main_v52 = R)
  (hW : V m c main_v54 = shapeCast S2048x16 W Facts₀.shapeCasts_S1x2048x16_S2048x16)

/-- The query whose place in the result is lane `a` of block `t`. -/
def query (t : Fin 4) (a : Fin 128) : Fin 2048 := ⟨128 * t.val + a.val, by omega⟩

include hR hW in
theorem flushed_values (t : Fin cfg0.N) (r : Fin 512) (a : Fin 128) :
    (dats m 0 c).flushed 2 t (ix3 (0 : Fin 1) r a) = (best W R).1 (ix3 (0 : Fin 1) (query (t.cast N_0) a) r) := by
  rw [Value.flushed2_A, out_values]
  show shapeCast S1x512x128 _ _ (ix3 (0 : Fin 1) r a) = _
  rw [shapeCast_ab_1ab_apply]
  have hT : (query (t.cast N_0) a).val = 128 * (grid0.coords t 0).val + a.val := by rw [(points t).1]; rfl
  exact (sorted_column (grid0.coords t) (ms0_0 t) (hs0_0 t) (ms0_1 t) (hs0_1 t) _ _ W R a _ hT (fun h s => block_heads m c t R hR a _ rfl h s)
    (fun h => block_weights m c t W hW a _ rfl h) r).1

include hR hW in
theorem flushed_keys (t : Fin cfg0.N) (r : Fin 512) (a : Fin 128) :
    (dats m 0 c).flushed 3 t (ix3 (0 : Fin 1) r a) = (best W R).2 (ix3 (0 : Fin 1) (query (t.cast N_0) a) r) := by
  rw [Value.flushed3_A, out_keys]
  show shapeCast S1x512x128 _ _ (ix3 (0 : Fin 1) r a) = _
  rw [shapeCast_ab_1ab_apply]
  have hT : (query (t.cast N_0) a).val = 128 * (grid0.coords t 0).val + a.val := by rw [(points t).1]; rfl
  exact (sorted_column (grid0.coords t) (ms0_0 t) (hs0_0 t) (ms0_1 t) (hs0_1 t) _ _ W R a _ hT (fun h s => block_heads m c t R hR a _ rfl h s)
    (fun h => block_weights m c t W hW a _ rfl h) r).2

include hR hW in
theorem final_values (t : Fin 4) (r : Fin 512) (a : Fin 128) :
    (dats m 0 c).arrAt 2 cfg0.N (ix3 t r a) = (best W R).1 (ix3 (0 : Fin 1) (query t a) r) := by
  obtain ⟨-, -, -, -, -, -, -, p0, p1, p2, -⟩ := points (t.cast N_0.symm)
  rw [← show (t.cast N_0.symm).cast N_0 = t from rfl, ← flushed_values m c W R hR hW (t.cast N_0.symm) r a, ← Value.blocks2 m c _ (flush0_2 _), View.read_apply]
  show (dats m 0 c).arrAt 2 cfg0.N _ = (dats m 0 c).arrAt 2 cfg0.N _
  refine congrArg ((dats m 0 c).arrAt 2 cfg0.N) (funext fun d => Fin.ext ?_)
  match d with
  | ⟨0, _⟩ => show t.val = win0_2.index (t.cast N_0.symm) 0 * 1 + 1 * 0; rw [p0]; simp
  | ⟨1, _⟩ => show r.val = win0_2.index (t.cast N_0.symm) 1 * 512 + 1 * r.val; rw [p1]; omega
  | ⟨2, _⟩ => show a.val = win0_2.index (t.cast N_0.symm) 2 * 128 + 1 * a.val; rw [p2]; omega

include hR hW in
theorem final_keys (t : Fin 4) (r : Fin 512) (a : Fin 128) :
    (dats m 0 c).arrAt 3 cfg0.N (ix3 t r a) = (best W R).2 (ix3 (0 : Fin 1) (query t a) r) := by
  obtain ⟨-, -, -, -, -, -, -, -, -, -, p0, p1, p2⟩ := points (t.cast N_0.symm)
  rw [← show (t.cast N_0.symm).cast N_0 = t from rfl, ← flushed_keys m c W R hR hW (t.cast N_0.symm) r a, ← Value.blocks3 m c _ (flush0_3 _), View.read_apply]
  show (dats m 0 c).arrAt 3 cfg0.N _ = (dats m 0 c).arrAt 3 cfg0.N _
  refine congrArg ((dats m 0 c).arrAt 3 cfg0.N) (funext fun d => Fin.ext ?_)
  match d with
  | ⟨0, _⟩ => show t.val = win0_3.index (t.cast N_0.symm) 0 * 1 + 1 * 0; rw [p0]; simp
  | ⟨1, _⟩ => show r.val = win0_3.index (t.cast N_0.symm) 1 * 512 + 1 * r.val; rw [p1]; omega
  | ⟨2, _⟩ => show a.val = win0_3.index (t.cast N_0.symm) 2 * 128 + 1 * a.val; rw [p2]; omega

/-- **The first call's two results are the reference's.** -/
theorem results (m' : (ℓ : Loc Cert.ReferenceAIdeal.nD Cert.ReferenceAIdeal.τ Cert.ReferenceAIdeal.sig) → Buf (Elt Ideal) ℓ)
    (e0 : m' ((c.tc : Thread Cert.ReferenceAIdeal.nD Cert.ReferenceAIdeal.τ).loc Cert.ReferenceAIdeal.main_arg0) = m ((c.tc : Thread nD τ).loc main_arg0))
    (e1 : m' ((c.tc : Thread Cert.ReferenceAIdeal.nD Cert.ReferenceAIdeal.τ).loc Cert.ReferenceAIdeal.main_arg1) = m ((c.tc : Thread nD τ).loc main_arg1))
    (e2 : m' ((c.tc : Thread Cert.ReferenceAIdeal.nD Cert.ReferenceAIdeal.τ).loc Cert.ReferenceAIdeal.main_arg2) = m ((c.tc : Thread nD τ).loc main_arg2))
    (e3 : m' ((c.tc : Thread Cert.ReferenceAIdeal.nD Cert.ReferenceAIdeal.τ).loc Cert.ReferenceAIdeal.main_arg3) = m ((c.tc : Thread nD τ).loc main_arg3)) :
    (dats m 0 c).arrAt 2 cfg0.N = Cert.ReferenceAIdeal.Value.res_main_v63 m' c ∧ (dats m 0 c).arrAt 3 cfg0.N = Cert.ReferenceAIdeal.Value.res_main_v67 m' c := by
  obtain ⟨W, R, hv, hk, hR, hW⟩ := host_agree m m' c e0 e1 e2 e3
  refine ⟨funext fun (x : (⟨3, ![4, 512, 128]⟩ : Shape).Idx) => ?_, funext fun (x : (⟨3, ![4, 512, 128]⟩ : Shape).Idx) => ?_⟩ <;>
    obtain ⟨t, r, a, rfl⟩ : ∃ (t : Fin 4) (r : Fin 512) (a : Fin 128), x = ix3 t r a := ⟨_, _, _, eq_ix3 x⟩
  · refine (final_values m c W R hR hW t r a).trans (Eq.trans ?_ (congrFun hv (ix3 t r a)).symm)
    exact (turned_rows rfl (best W R).1 _ _ _ _ t r a _ (Nat.zero_add _).symm).symm
  · refine (final_keys m c W R hR hW t r a).trans (Eq.trans ?_ (congrFun hk (ix3 t r a)).symm)
    exact (turned_rows rfl (best W R).2 _ _ _ _ t r a _ (Nat.zero_add _).symm).symm

end

end Cert.NetA

end
-- ==== Proof.Halving.lean ====
/- Halving: of chunks of 512 rows, sorted descending and ascending in turn, each neighbouring pair is replaced by one
   chunk that holds the best 512 of both, sorted again. -/
module

public import proofs.«01_k».proof.Proof.Columns
public import Idealize.ShloMosaic.Lib.SortNet.Fold

@[expose] public section

noncomputable section

namespace Cert.Net

open Idealize.ShloMosaic Idealize.ShloMosaic.Shape Idealize.ShloMosaic.ValueIdx Idealize.ShloMosaic.SortNet

/-! ## What the kernel does -/

section
variable {F : FTy → Type} [FloatOps F]

theorem netDown_step {p n : Nat} (hn : 2 ^ p = n) (k s : Nat) (h : s + 1 < p) (q : Pair F n) :
    netDown hn k (s + 1) h q = netDown hn k s (Nat.lt_of_succ_lt h) (netStage hn k (s + 1) h q) := rfl

theorem netDown_last {p n : Nat} (hn : 2 ^ p = n) (k : Nat) (h : 0 < p) (q : Pair F n) : netDown hn k 0 h q = netStage hn k 0 h q := rfl

theorem netLevels_step {p n : Nat} (hn : 2 ^ p = n) (l : Nat) (h : l + 1 ≤ p) (q : Pair F n) :
    netLevels hn (l + 1) h q = netDown hn (l + 1) l h (netLevels hn l (Nat.le_of_succ_le h) q) := rfl

/-- Of 1024 rows the first 512. -/
def front {α : Type} (X : (Blk 1024).Idx → α) : (Blk 512).Idx → α :=
  extractStridedSlice (Blk 512) ![0, 0] X (slices_rows (by decide))

/-- Of 2048 rows the first 512 and the last 512. -/
def ends {α : Type} (X : (Blk 2048).Idx → α) : (Blk 1024).Idx → α :=
  concatenate (Blk 1024) 0 [⟨Blk 512, extractStridedSlice (Blk 512) ![0, 0] X (slices_rows (by decide))⟩,
    ⟨Blk 512, extractStridedSlice (Blk 512) ![1536, 0] X (slices_rows (by decide))⟩] (concat_rows (by decide))

/-- Two chunks of 512 rows made one. -/
def halve1024 (q : Pair F 1024) : Pair F 512 :=
  let s := netStage (p := 10) (n := 1024) rfl 10 9 (by decide) q
  netDown (p := 9) (n := 512) rfl 9 8 (by decide) (front s.1, front s.2)

/-- Four chunks of 512 rows made two. -/
def halve2048 (q : Pair F 2048) : Pair F 1024 :=
  let s := netStage (p := 11) (n := 2048) rfl 10 9 (by decide) q
  netDown (p := 10) (n := 1024) rfl 9 8 (by decide) (ends s.1, ends s.2)

end

theorem front_apply {α : Type} (X : (Blk 1024).Idx → α) (j : Fin 512) (c : Fin 128) : front X (ix2 j c) = X (ix2 (j.castLE (by decide)) c) :=
  extractStridedSlice_apply _ _ _ _ (ix2 (j.castLE (by decide)) c) (fun a => by
    match a with | ⟨0, _⟩ => (show j.val = 0 + j.val; omega) | ⟨1, _⟩ => (show c.val = 0 + c.val; omega))

theorem ends_low {α : Type} (X : (Blk 2048).Idx → α) (i : Fin 1024) (i' : Fin 2048) (c : Fin 128) (hi : i.val < 512) (hi' : i'.val = i.val) :
    ends X (ix2 i c) = X (ix2 i' c) := by
  unfold ends
  rw [concatenate_pair_apply_left (t := Blk 1024) (s₁ := Blk 512) (s₂ := Blk 512) (0 : Fin 2) _ _ _ (ix2 i c) rfl (ix2 ⟨i.val, hi⟩ c)
    (fun b => by match b with | ⟨0, _⟩ => rfl | ⟨1, _⟩ => rfl)]
  exact extractStridedSlice_apply _ _ _ _ (ix2 i' c) (fun a => by
    match a with | ⟨0, _⟩ => (show i'.val = 0 + i.val; omega) | ⟨1, _⟩ => (show c.val = 0 + c.val; omega))

theorem ends_high {α : Type} (X : (Blk 2048).Idx → α) (i : Fin 1024) (i' : Fin 2048) (c : Fin 128) (hi : 512 ≤ i.val) (hi' : i'.val = i.val + 1024) :
    ends X (ix2 i c) = X (ix2 i' c) := by
  have h1 := i.isLt
  unfold ends
  rw [concatenate_pair_apply_right (t := Blk 1024) (s₁ := Blk 512) (s₂ := Blk 512) (0 : Fin 2) _ _ _ (ix2 i c) rfl rfl (ix2 ⟨i.val - 512, by omega⟩ c)
    (fun b hb => by match b with | ⟨0, _⟩ => exact absurd rfl hb | ⟨1, _⟩ => rfl) (by show i.val - 512 + 512 = i.val; omega)]
  exact extractStridedSlice_apply _ _ _ _ (ix2 i' c) (fun a => by
    match a with | ⟨0, _⟩ => (show i'.val = 1536 + (i.val - 512); omega) | ⟨1, _⟩ => (show c.val = 0 + c.val; omega))

/-! ## Two chunks merged -/

/-- Where a chunk holds the greater of a descending and an ascending vector, the level of merges leaves it sorted in its own
    direction, with the best of both. -/
theorem merged_chunk {α : Type} [LinearOrder α] {p l : Nat} (hl : l + 1 ≤ p) (w : Fin (2 ^ p) → α) (g : Fin (2 ^ (p - (l + 1))))
    (R D : Fin (2 ^ (l + 1)) → α) (hR : Antitone R) (hD : Monotone D) (hw : ∀ j, w (chunkPos hl g j) = max (R j) (D j))
    (z : Fin (2 ^ (l + 1)) → α) (hz : ∀ j, z j = Network.apply (levelNet p true l) w (chunkPos hl g j)) :
    (g.val % 2 = 0 → Antitone z) ∧ (g.val % 2 = 1 → Monotone z)
      ∧ topList (2 ^ (l + 1)) (List.ofFn z) = topList (2 ^ (l + 1)) (List.ofFn R ++ List.ofFn D) := by
  have e : (fun j => w (chunkPos hl g j)) = fun j => max (R j) (D j) := funext hw
  obtain ⟨f1, f2⟩ := foldStep (l + 1) R D hR hD
  have f3 := topList_eq_self (k := 2 ^ (l + 1)) (l := List.ofFn (Network.apply (mergeDescNet (l + 1)) fun j => max (R j) (D j)))
    (List.pairwise_ofFn.mpr fun i j hij => f1 hij.le) (by rw [List.length_ofFn])
  by_cases hg : g.val % 2 = 0
  · obtain rfl : z = Network.apply (mergeDescNet (l + 1)) fun j => max (R j) (D j) := funext fun j => by
      rw [hz, apply_levelNet_chunkPos, e, decide_eq_true hg]; rfl
    exact ⟨fun _ => f1, fun h => by omega, f3.trans f2⟩
  · obtain rfl : z = Network.apply (mergeAscNet (l + 1)) fun j => max (R j) (D j) := funext fun j => by
      rw [hz, apply_levelNet_chunkPos, e, decide_eq_false hg]; rfl
    refine ⟨fun h => absurd h hg, fun _ => mergeAscNet_apply_monotone _ _ (descAsc_max R D hR hD), Eq.trans (topList_perm ?_) (f3.trans f2)⟩
    obtain ⟨σ, hσ⟩ := Network.exists_perm (mergeAscNet (l + 1)) fun j => max (R j) (D j)
    obtain ⟨τ, hτ⟩ := Network.exists_perm (mergeDescNet (l + 1)) fun j => max (R j) (D j)
    rw [hσ, hτ]
    exact (Equiv.Perm.ofFn_comp_perm σ _).trans (Equiv.Perm.ofFn_comp_perm τ _).symm

/-! ## The stage between two chunks -/

section
variable {p n : Nat} (hn : 2 ^ p = n) (hs : 9 < p) (hp : p ≤ 31) (q : Pair Ideal n) (a : Fin 128) (i i' : Fin n) (g j : Nat) (hj : j < 512)
  (hi : i.val = 1024 * g + j) (hi' : i'.val = i.val + 512)
include hp hj hi hi'

/-- In an even pair of chunks the first gets the greater entry. -/
theorem stage_even (hg : g % 2 = 0) : col (netStage hn 10 9 hs q) a i = max (col q a i) (col q a i') := by
  subst hn
  have hb : i.val &&& 2 ^ 9 = 0 := (and_two_pow_eq_zero_iff_testBit _ _).mpr (by rw [Nat.testBit_eq_decide_div_mod_eq]; simp; omega)
  have hd : i.val &&& 2 ^ 10 = 0 := (and_two_pow_eq_zero_iff_testBit _ _).mpr (by rw [Nat.testBit_eq_decide_div_mod_eq]; simp; omega)
  have hpt : partner p 9 i = i' := Fin.ext (by rw [partner_val_of_clear hs i hb, hi']; rfl)
  have h := (apply_stage hs (fun i => decide (i.val &&& 2 ^ 10 = 0)) (fun i => col q a i) i hb).1
  rw [if_pos (decide_eq_true hd), hpt] at h
  exact (congrFun (col_netStage rfl hs (by decide) hp (by decide) q a) i).trans h

/-- In an odd pair of chunks the second gets the greater entry. -/
theorem stage_odd (hg : g % 2 = 1) : col (netStage hn 10 9 hs q) a i' = max (col q a i) (col q a i') := by
  subst hn
  have hb : i.val &&& 2 ^ 9 = 0 := (and_two_pow_eq_zero_iff_testBit _ _).mpr (by rw [Nat.testBit_eq_decide_div_mod_eq]; simp; omega)
  have hd : ¬ i.val &&& 2 ^ 10 = 0 := fun h => by
    have := (and_two_pow_eq_zero_iff_testBit _ _).mp h
    rw [Nat.testBit_eq_decide_div_mod_eq] at this
    simp at this
    omega
  have hpt : partner p 9 i = i' := Fin.ext (by rw [partner_val_of_clear hs i hb, hi']; rfl)
  have h := (apply_stage hs (fun i => decide (i.val &&& 2 ^ 10 = 0)) (fun i => col q a i) i hb).2
  rw [if_neg (by rw [decide_eq_false hd]; exact Bool.false_ne_true), hpt] at h
  exact (congrFun (col_netStage rfl hs (by decide) hp (by decide) q a) i').trans h

end

/-! ## Chunks of 512 rows -/

/-- The rows from `o` on, 512 of them. -/
def chunk {n : Nat} (q : Pair Ideal n) (a : Fin 128) (o : Nat) (h : o + 512 ≤ n) (j : Fin 512) : Scored := col q a ⟨o + j.val, by omega⟩

/-- After nine levels the chunks descend and ascend in turn. -/
theorem chunk_levels {p n : Nat} (hn : 2 ^ p = n) (hl : 9 ≤ p) (hp : p ≤ 31) (q : Pair Ideal n) (a : Fin 128) (g : Nat) (hg : g < 2 ^ (p - 9))
    (h : g * 512 + 512 ≤ n) :
    (g % 2 = 0 → Antitone (chunk (netLevels hn 9 hl q) a (g * 512) h)) ∧ (g % 2 = 1 → Monotone (chunk (netLevels hn 9 hl q) a (g * 512) h)) := by
  subst hn
  have key := sortNet_levels p true (lane rfl q a) 9 hl ⟨g, hg⟩
  rw [← lane_netLevels rfl hp a 9 hl q] at key
  refine ⟨fun h => key.1 ?_, fun h => key.2 ?_⟩
  · rw [decide_eq_true h]; rfl
  · rw [decide_eq_false (show ¬ g % 2 = 0 by omega)]; rfl

/-- What the levels leave is what they were given, in another order. -/
theorem perm_levels {p n : Nat} (hn : 2 ^ p = n) (hp : p ≤ 31) (l : Nat) (hl : l ≤ p) (q : Pair Ideal n) (a : Fin 128) :
    (List.ofFn (col (netLevels hn l hl q) a)).Perm (List.ofFn (col q a)) := by
  subst hn
  obtain ⟨σ, hσ⟩ := Network.exists_perm (levelsNet p true l) (col q a)
  rw [show col (netLevels rfl l hl q) a = Network.apply (levelsNet p true l) (col q a) from lane_netLevels rfl hp a l hl q, hσ]
  exact Equiv.Perm.ofFn_comp_perm σ (col q a)

theorem lane_merge {p n : Nat} (hn : 2 ^ p = n) (hs : 8 < p) (hp : p ≤ 31) (q : Pair Ideal n) (a : Fin 128) :
    lane hn (netDown hn 9 8 hs q) a = Network.apply (levelNet p true 8) (lane hn q a) := by
  refine (lane_netDown hn hp (by decide) a 8 hs (by decide) q).trans ?_
  unfold levelNet
  simp only [beq_true]

theorem chunk_halve1024 (q : Pair Ideal 1024) (a : Fin 128) (hR : Antitone (chunk q a 0 (by decide))) (hD : Monotone (chunk q a 512 (by decide))) :
    Antitone (col (halve1024 q) a) ∧ topList 512 (List.ofFn (col (halve1024 q) a))
      = topList 512 (List.ofFn (chunk q a 0 (by decide)) ++ List.ofFn (chunk q a 512 (by decide))) := by
  have m := merged_chunk (l := 8) (p := 9) (Nat.le_refl 9)
    (lane (p := 9) (n := 512) rfl (front (netStage (p := 10) (n := 1024) rfl 10 9 (by decide) q).1, front (netStage (p := 10) (n := 1024) rfl 10 9 (by decide) q).2) a)
    ⟨0, by decide⟩ _ _ hR hD (fun j => by
      have h1 := j.isLt
      refine Eq.trans ?_ (stage_even (p := 10) (n := 1024) rfl (by decide) (by decide) q a ⟨0 + j.val, by omega⟩ ⟨512 + j.val, by omega⟩ 0 j.val j.isLt rfl
        (by show 512 + j.val = 0 + j.val + 512; omega) rfl)
      have hv : (⟨0 * 2 ^ 9 + j.val, by omega⟩ : Fin 512).castLE (by decide) = (⟨0 + j.val, by omega⟩ : Fin 1024) := Fin.ext (by show 0 * 2 ^ 9 + j.val = 0 + j.val; omega)
      rw [← hv]
      exact congrArg₂ ent (front_apply (netStage (p := 10) (n := 1024) rfl 10 9 (by decide) q).1 _ a) (front_apply (netStage (p := 10) (n := 1024) rfl 10 9 (by decide) q).2 _ a))
    (col (halve1024 q) a) (fun j => by
      refine Eq.trans ?_ (congrFun (lane_merge (p := 9) (n := 512) rfl (by decide) (by decide) _ a) _)
      refine congrArg (col (halve1024 q) a) (Fin.ext ?_)
      show j.val = 0 * 2 ^ 9 + j.val
      omega)
  exact ⟨m.1 rfl, m.2.2⟩

theorem chunk_halve2048 (q : Pair Ideal 2048) (a : Fin 128) (g : Nat) (hg : g < 2) (hR : Antitone (chunk q a (1024 * g) (by omega)))
    (hD : Monotone (chunk q a (1024 * g + 512) (by omega))) :
    (g = 0 → Antitone (chunk (halve2048 q) a (512 * g) (by omega))) ∧ (g = 1 → Monotone (chunk (halve2048 q) a (512 * g) (by omega)))
      ∧ topList 512 (List.ofFn (chunk (halve2048 q) a (512 * g) (by omega)))
        = topList 512 (List.ofFn (chunk q a (1024 * g) (by omega)) ++ List.ofFn (chunk q a (1024 * g + 512) (by omega))) := by
  have m := merged_chunk (l := 8) (p := 10) (by decide)
    (lane (p := 10) (n := 1024) rfl (ends (netStage (p := 11) (n := 2048) rfl 10 9 (by decide) q).1, ends (netStage (p := 11) (n := 2048) rfl 10 9 (by decide) q).2) a)
    ⟨g, hg⟩ _ _ hR hD (fun j => by
      have h1 := j.isLt
      obtain rfl | rfl : g = 0 ∨ g = 1 := by omega
      · refine Eq.trans ?_ (stage_even (p := 11) (n := 2048) rfl (by decide) (by decide) q a ⟨1024 * 0 + j.val, by omega⟩ ⟨1024 * 0 + 512 + j.val, by omega⟩ 0 j.val j.isLt
          rfl (by show 1024 * 0 + 512 + j.val = 1024 * 0 + j.val + 512; omega) rfl)
        have hv : 1024 * 0 + j.val = 0 * 2 ^ 9 + j.val := by omega
        exact congrArg₂ ent (ends_low _ _ _ a (by show 0 * 2 ^ 9 + j.val < 512; omega) hv) (ends_low _ _ _ a (by show 0 * 2 ^ 9 + j.val < 512; omega) hv)
      · refine Eq.trans ?_ (stage_odd (p := 11) (n := 2048) rfl (by decide) (by decide) q a ⟨1024 * 1 + j.val, by omega⟩ ⟨1024 * 1 + 512 + j.val, by omega⟩ 1 j.val j.isLt
          rfl (by show 1024 * 1 + 512 + j.val = 1024 * 1 + j.val + 512; omega) rfl)
        have hv : 1024 * 1 + 512 + j.val = 1 * 2 ^ 9 + j.val + 1024 := by omega
        exact congrArg₂ ent (ends_high _ _ _ a (by show 512 ≤ 1 * 2 ^ 9 + j.val; omega) hv) (ends_high _ _ _ a (by show 512 ≤ 1 * 2 ^ 9 + j.val; omega) hv))
    (chunk (halve2048 q) a (512 * g) (by omega)) (fun j => by
      refine Eq.trans ?_ (congrFun (lane_merge (p := 10) (n := 1024) rfl (by decide) (by decide) _ a) _)
      refine congrArg (col (halve2048 q) a) (Fin.ext ?_)
      show 512 * g + j.val = g * 2 ^ 9 + j.val
      omega)
  exact ⟨fun h => m.1 (by show g % 2 = 0; omega), fun h => m.2.1 (by show g % 2 = 1; omega), m.2.2⟩

/-! ## The whole selection -/

theorem split1024 (q : Pair Ideal 1024) (a : Fin 128) :
    List.ofFn (col q a) = List.ofFn (chunk q a 0 (by decide)) ++ List.ofFn (chunk q a 512 (by decide)) := by
  refine (List.ofFn_add (m := 512) (n := 512) (f := col q a)).trans (congrArg₂ (· ++ ·) (congrArg List.ofFn (funext fun j => ?_)) rfl)
  exact congrArg (col q a) (Fin.ext (Nat.zero_add j.val).symm)

theorem split2048 (q : Pair Ideal 2048) (a : Fin 128) :
    List.ofFn (col q a) = (List.ofFn (chunk q a 0 (by decide)) ++ List.ofFn (chunk q a 512 (by decide)))
      ++ (List.ofFn (chunk q a 1024 (by decide)) ++ List.ofFn (chunk q a 1536 (by decide))) := by
  refine (List.ofFn_add (m := 1024) (n := 1024) (f := col q a)).trans (congrArg₂ (· ++ ·) ?_ ?_)
  · refine (List.ofFn_add (m := 512) (n := 512)).trans (congrArg₂ (· ++ ·) (congrArg List.ofFn (funext fun j => ?_)) rfl)
    exact congrArg (col q a) (Fin.ext (Nat.zero_add j.val).symm)
  · refine (List.ofFn_add (m := 512) (n := 512)).trans (congrArg₂ (· ++ ·) rfl (congrArg List.ofFn (funext fun j => ?_)))
    exact congrArg (col q a) (Fin.ext (by show 1024 + (512 + j.val) = 1536 + j.val; omega))

/-- The kernel's selection from 1024 keys. -/
def select1024 {F : FTy → Type} [FloatOps F] (q : Pair F 1024) : Pair F 512 := halve1024 (netLevels (p := 10) (n := 1024) rfl 9 (by decide) q)

/-- The kernel's selection from 2048 keys. -/
def select2048 {F : FTy → Type} [FloatOps F] (q : Pair F 2048) : Pair F 512 :=
  halve1024 (halve2048 (netLevels (p := 11) (n := 2048) rfl 9 (by decide) q))

theorem top_of_sorted (q : Pair Ideal 512) (a : Fin 128) (h : Antitone (col q a)) : topList 512 (List.ofFn (col q a)) = List.ofFn (col q a) :=
  topList_eq_self (List.pairwise_ofFn.mpr fun i j hij => h hij.le) (by rw [List.length_ofFn])

/-- The selection leaves the best 512 of 1024 entries, in order. -/
theorem column_select1024 (q : Pair Ideal 1024) (a : Fin 128) : List.ofFn (col (select1024 q) a) = topList 512 (List.ofFn (col q a)) := by
  obtain ⟨h1, h2⟩ := chunk_halve1024 _ a ((chunk_levels (p := 10) (n := 1024) rfl (by decide) (by decide) q a 0 (by decide) (by decide)).1 rfl)
    ((chunk_levels (p := 10) (n := 1024) rfl (by decide) (by decide) q a 1 (by decide) (by decide)).2 rfl)
  rw [← topList_perm (perm_levels (p := 10) (n := 1024) rfl (by decide) 9 (by decide) q a), split1024]
  exact (top_of_sorted _ a h1).symm.trans h2

/-- The selection leaves the best 512 of 2048 entries, in order. -/
theorem column_select2048 (q : Pair Ideal 2048) (a : Fin 128) : List.ofFn (col (select2048 q) a) = topList 512 (List.ofFn (col q a)) := by
  have lv := fun g h h' => chunk_levels (p := 11) (n := 2048) rfl (by decide) (by decide) q a g h h'
  obtain ⟨a1, -, a3⟩ := chunk_halve2048 _ a 0 (by decide) ((lv 0 (by decide) (by decide)).1 rfl) ((lv 1 (by decide) (by decide)).2 rfl)
  obtain ⟨-, b2, b3⟩ := chunk_halve2048 _ a 1 (by decide) ((lv 2 (by decide) (by decide)).1 rfl) ((lv 3 (by decide) (by decide)).2 rfl)
  obtain ⟨h1, h2⟩ := chunk_halve1024 _ a (a1 rfl) (b2 rfl)
  refine (top_of_sorted _ a h1).symm.trans (h2.trans ?_)
  rw [← topList_append_topList_topList]
  refine (congrArg₂ (fun x y => topList 512 (x ++ y)) a3 b3).trans ?_
  rw [topList_append_topList_topList, ← topList_perm (perm_levels (p := 11) (n := 2048) rfl (by decide) 9 (by decide) q a), split2048]

end Cert.Net

end
-- ==== Proof.LinkB.lean ====
/- The kernel on blocks of 1024 keys, put in terms of the named stages: what it stores is the masked scores
   sorted in chunks of 512 and the chunks made one. -/
module

public import proofs.«01_k».proof.Proof.Gen.KernelBIdeal.Value
public import proofs.«01_k».proof.Proof.Halving
public import proofs.«01_k».proof.Proof.Scores

@[expose] public section

set_option maxRecDepth 65536

noncomputable section

namespace Cert.NetB

open Cert.KernelBIdeal Cert.KernelBIdeal.Gen Idealize.ShloMosaic Idealize.ShloMosaic.TcCoe Cert.Net

variable {F : FTy → Type} [FloatOps F] [Named F]

section
variable (c : Dev nD) (i : grid0.Coords) (arg1 : Memref sig .tc .vmem S1x16x128x1024 .bf16) (harg1 : arg1.IsWhole)
  (arg2 : Memref sig .tc .vmem S128x16 .bf16) (harg2 : arg2.IsWhole) (arg3 : Memref sig .tc .vmem S1x512x128 .f32) (harg3 : arg3.IsWhole)
  (arg4 : Memref sig .tc .vmem S1x512x128 .i32) (harg4 : arg4.IsWhole) (arg5 : Memref sig .tc .vmem S8x128 .f32) (harg5 : arg5.IsWhole)
  (x0 : Vec F S1x16x128x1024 .bf16) (x1 : Vec F S128x16 .bf16)

theorem inb_head (h : Nat) (hh : h < 16) : ∀ a, (![0, h, 0, 0] : Fin 4 → Nat) a + S1x1x128x1024.size a ≤ S1x16x128x1024.size a :=
  fun a => by fin_cases a <;> simp <;> omega

/-- One head's scores as the kernel loads them. -/
def headLoad (h : Nat) (hh : h < 16) : FVec F (HeadLoad 1024) .bf16 :=
  View.readAt (Elt F) arg1.view (Rect.unit (s := S1x16x128x1024) ![0, h, 0, 0] S1x1x128x1024.size (inb_head h hh)).toLoadRect (harg1.unread x0)

/-- The weights as the kernel loads them. -/
def weightLoad : FVec F Weights .bf16 :=
  View.readAt (Elt F) arg2.view (Rect.unit (s := S128x16) ![0, 0] S128x16.size inb_S128x16_S128x16_0_0).toLoadRect (harg2.unread x1)

/-- The masked scores and the key numbers, as the kernel's sort finds them. -/
def start : Pair F 1024 :=
  (scoreBlock (kernelRun0_A.sl.v0 i) (Named.named κ "mask" 0xFF7FFFFF#32) (weightLoad arg2 harg2 x1) (headLoad arg1 harg1 x0), keyIds 1024)

theorem first_levels : (kernelRun0_A.sl.v968 c i arg1 harg1 arg2 harg2 x0 x1, kernelRun0_A.sl.v972 c i arg1 harg1 arg2 harg2 x0 x1)
    = netStage (p := 10) (n := 1024) rfl 7 6 (by decide) (netLevels (p := 10) (n := 1024) rfl 6 (by decide) (start i arg1 harg1 arg2 harg2 x0 x1)) := by
  sl_kernel_rfl

theorem last_levels : (kernelRun0_A.sl.v1821 c i arg1 harg1 arg2 harg2 x0 x1, kernelRun0_A.sl.v1822 c i arg1 harg1 arg2 harg2 x0 x1)
    = netDown (p := 10) (n := 1024) rfl 9 8 (by decide) (netDown (p := 10) (n := 1024) rfl 8 7 (by decide) (netDown (p := 10) (n := 1024) rfl 7 5 (by decide)
        (kernelRun0_A.sl.v968 c i arg1 harg1 arg2 harg2 x0 x1, kernelRun0_A.sl.v972 c i arg1 harg1 arg2 harg2 x0 x1))) := by
  sl_kernel_rfl

theorem levels : (kernelRun0_A.sl.v1821 c i arg1 harg1 arg2 harg2 x0 x1, kernelRun0_A.sl.v1822 c i arg1 harg1 arg2 harg2 x0 x1) = netLevels (p := 10) (n := 1024) rfl 9 (by decide) (start i arg1 harg1 arg2 harg2 x0 x1) := by
  rw [last_levels, first_levels, netLevels_step _ 8, netLevels_step _ 7, netLevels_step _ 6, netDown_step _ 7 5]

theorem stored_values_late : (kernelRun0_A c i arg1 harg1 arg2 harg2 arg3 harg3 arg4 harg4 arg5 harg5 x0 x1).1 =
    [⟨Rect.unit ![0, 0, 0] ![1, 512, 128] inb_S1x512x128_S1x512x128_0_0_0,
      shapeCast S1x512x128 (halve1024 (kernelRun0_A.sl.v1821 c i arg1 harg1 arg2 harg2 x0 x1, kernelRun0_A.sl.v1822 c i arg1 harg1 arg2 harg2 x0 x1)).1
        shapeCasts_S512x128_S1x512x128⟩] := by
  sl_kernel_rfl

theorem stored_values : (kernelRun0_A c i arg1 harg1 arg2 harg2 arg3 harg3 arg4 harg4 arg5 harg5 x0 x1).1 =
    [⟨Rect.unit ![0, 0, 0] ![1, 512, 128] inb_S1x512x128_S1x512x128_0_0_0,
      shapeCast S1x512x128 (select1024 (start i arg1 harg1 arg2 harg2 x0 x1)).1 shapeCasts_S512x128_S1x512x128⟩] := by
  rw [stored_values_late, levels]
  rfl

theorem stored_keys_late : (kernelRun0_A c i arg1 harg1 arg2 harg2 arg3 harg3 arg4 harg4 arg5 harg5 x0 x1).2.1 =
    [⟨Rect.unit ![0, 0, 0] ![1, 512, 128] inb_S1x512x128_S1x512x128_0_0_0,
      shapeCast S1x512x128 (halve1024 (kernelRun0_A.sl.v1821 c i arg1 harg1 arg2 harg2 x0 x1, kernelRun0_A.sl.v1822 c i arg1 harg1 arg2 harg2 x0 x1)).2
        shapeCasts_S512x128_S1x512x128⟩] := by
  sl_kernel_rfl

theorem stored_keys : (kernelRun0_A c i arg1 harg1 arg2 harg2 arg3 harg3 arg4 harg4 arg5 harg5 x0 x1).2.1 =
    [⟨Rect.unit ![0, 0, 0] ![1, 512, 128] inb_S1x512x128_S1x512x128_0_0_0,
      shapeCast S1x512x128 (select1024 (start i arg1 harg1 arg2 harg2 x0 x1)).2 shapeCasts_S512x128_S1x512x128⟩] := by
  rw [stored_keys_late, levels]
  rfl

end

end Cert.NetB

end
-- ==== Proof.HostB.lean ====
/- The host's part of the second call (blocks of 1024 keys) and of its reference: both compute the same weights and the
   same scores of the heads. -/
module

public import proofs.«01_k».proof.Proof.Gen.KernelBIdeal.Value
public import proofs.«01_k».proof.Proof.Gen.ReferenceBIdeal.Run
public import proofs.«01_k».proof.Proof.RefRead

@[expose] public section

noncomputable section

namespace Cert.NetB

open Idealize.ShloMosaic Idealize.ShloMosaic.TcCoe Cert.Net

/-- The reference's selection of the best keys, from the weights and the heads' scores. -/
abbrev best (W : FVec Ideal AllWeights .f32) (R : FVec Ideal AllHeads .f32) :=
  Host.topK (⟨3, ![1, 2048, 512]⟩ : Shape) 2 (FloatOps.cmpfTotal .gt)
    (maskedScores Cert.ReferenceBIdeal.Facts₀.dot_S1x2048x16_S1x16x2048x2048_S1x2048x2048_2_1_n_3_01_02_wf
      Cert.ReferenceBIdeal.Facts₀.bcast_S2048x2048_S1x2048x2048_1_2 Cert.ReferenceBIdeal.Facts₀.bcast_S_S2048x2048
      Cert.ReferenceBIdeal.Facts₀.bcast_S_S1x2048x2048 0xFF800000#32 W R) Cert.ReferenceBIdeal.Facts₀.sliceFits_S1x2048x2048_S1x2048x512

theorem host_agree (m : (ℓ : Loc Cert.KernelBIdeal.nD Cert.KernelBIdeal.τ Cert.KernelBIdeal.sig) → Buf (Elt Ideal) ℓ)
    (m' : (ℓ : Loc Cert.ReferenceBIdeal.nD Cert.ReferenceBIdeal.τ Cert.ReferenceBIdeal.sig) → Buf (Elt Ideal) ℓ) (c : Dev Cert.KernelBIdeal.nD)
    (e0 : m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0))
    (e1 : m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1))
    (e2 : m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2))
    (e3 : m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)) :
    ∃ (W : FVec Ideal AllWeights .f32) (R : FVec Ideal AllHeads .f32),
      Cert.ReferenceBIdeal.Value.res_main_v63 m' c = transpose Cert.ReferenceBIdeal.S4x512x128 [0, 2, 1] (shapeCast Cert.ReferenceBIdeal.S4x128x512 (shapeCast Cert.ReferenceBIdeal.S512x512
          (extractStridedSlice Cert.ReferenceBIdeal.S1x512x512 ![0, 512, 0] (best W R).1 Cert.ReferenceBIdeal.Facts₀.slices_S1x2048x512_S1x512x512_0_512_0)
          Cert.ReferenceBIdeal.Facts₀.shapeCasts_S1x512x512_S512x512) Cert.ReferenceBIdeal.Facts₀.shapeCasts_S512x512_S4x128x512) Cert.ReferenceBIdeal.Facts₀.transposes_S4x128x512_S4x512x128_0_2_1
      ∧ Cert.ReferenceBIdeal.Value.res_main_v67 m' c = transpose Cert.ReferenceBIdeal.S4x512x128 [0, 2, 1] (shapeCast Cert.ReferenceBIdeal.S4x128x512 (shapeCast Cert.ReferenceBIdeal.S512x512
          (extractStridedSlice Cert.ReferenceBIdeal.S1x512x512 ![0, 512, 0] (best W R).2 Cert.ReferenceBIdeal.Facts₀.slices_S1x2048x512_S1x512x512_0_512_0)
          Cert.ReferenceBIdeal.Facts₀.shapeCasts_S1x512x512_S512x512) Cert.ReferenceBIdeal.Facts₀.shapeCasts_S512x512_S4x128x512) Cert.ReferenceBIdeal.Facts₀.transposes_S4x128x512_S4x512x128_0_2_1
      ∧ Cert.KernelBIdeal.Gen.V m c Cert.KernelBIdeal.main_v52 = R
      ∧ Cert.KernelBIdeal.Gen.V m c Cert.KernelBIdeal.main_v54 = shapeCast Cert.KernelBIdeal.S2048x16 W Cert.KernelBIdeal.Facts₀.shapeCasts_S1x2048x16_S2048x16 := by
  unfold Cert.ReferenceBIdeal.Value.res_main_v63 Cert.ReferenceBIdeal.Value.res_main_v67
  rw [e0, e1, e2, e3]
  refine ⟨_, _, rfl, rfl, ?_, ?_⟩
  all_goals
    simp only [Cert.KernelBIdeal.Gen.V, Cert.KernelBIdeal.Gen.hostOps0, Cert.KernelBIdeal.Gen.hostOps0_1, Cert.KernelBIdeal.Gen.hostOps0_2, List.flatten_cons,
      List.flatten_nil, List.append_nil, List.cons_append, List.nil_append, StableHlo.TRef.binary, StableHlo.TRef.nullary, StableHlo.TRef.ternary,
      StableHlo.TRef.unary, StableHlo.TRef.toBuf, StableHlo.TRef.ofBuf, cast_eq]
    after_results_simp
    try dsimp only [Matrix.cons_val]
    try after_results_simp
    rfl

end Cert.NetB

end
-- ==== Proof.FinalB.lean ====
/- The second call's results: block by block its columns hold the best 512 keys of the reference's rows. -/
module

public import proofs.«01_k».proof.Proof.LinkB
public import proofs.«01_k».proof.Proof.HostB
public import proofs.«01_k».proof.Proof.Halving
public import Idealize.ShloMosaic.Lib.WholeRead

@[expose] public section

set_option maxRecDepth 65536

noncomputable section

namespace Cert.NetB

open Cert.KernelBIdeal Cert.KernelBIdeal.Gen Idealize.ShloMosaic Idealize.ShloMosaic.TcCoe Idealize.ShloMosaic.ValueIdx Idealize.ShloMosaic.SortNet Cert.Net

/-! ## One block -/

section
variable (c : Dev nD) (i : grid0.Coords) (arg1 : Memref sig .tc .vmem S1x16x128x1024 .bf16) (harg1 : arg1.IsWhole)
  (arg2 : Memref sig .tc .vmem S128x16 .bf16) (harg2 : arg2.IsWhole) (arg3 : Memref sig .tc .vmem S1x512x128 .f32) (harg3 : arg3.IsWhole)
  (arg4 : Memref sig .tc .vmem S1x512x128 .i32) (harg4 : arg4.IsWhole) (arg5 : Memref sig .tc .vmem S8x128 .f32) (harg5 : arg5.IsWhole)
  (x0 : Vec Ideal S1x16x128x1024 .bf16) (x1 : Vec Ideal S128x16 .bf16)

theorem zero3 : (![0, 0, 0] : Fin 3 → Nat) = fun _ => 0 := funext fun a => by fin_cases a <;> rfl

/-- The sorted block of scores and keys. -/
abbrev sorted : Pair Ideal 512 := select1024 (start i arg1 harg1 arg2 harg2 x0 x1)

theorem out_values : out0_A_2 c i arg1 harg1 arg2 harg2 arg3 harg3 arg4 harg4 arg5 harg5 x0 x1
    = shapeCast S1x512x128 (sorted i arg1 harg1 arg2 harg2 x0 x1).1 shapeCasts_S512x128_S1x512x128 := by
  unfold out0_A_2
  rw [View.read_writes_junk_eq_canon, stored_values]
  exact View.canon_unit_zero (S := S1x512x128) zero3 _ _

theorem out_keys : out0_A_3 c i arg1 harg1 arg2 harg2 arg3 harg3 arg4 harg4 arg5 harg5 x0 x1
    = shapeCast S1x512x128 (sorted i arg1 harg1 arg2 harg2 x0 x1).2 shapeCasts_S512x128_S1x512x128 := by
  unfold out0_A_3
  rw [View.read_writes_junk_eq_canon, stored_keys]
  exact View.canon_unit_zero (S := S1x512x128) zero3 _ _

theorem headLoad_apply (h : Nat) (hh : h < 16) (a : Fin 128) (s : Fin 1024) :
    headLoad arg1 harg1 x0 h hh (ix4 (0 : Fin 1) (0 : Fin 1) a s) = x0 (ix4 (0 : Fin 1) ⟨h, hh⟩ a s) := by
  unfold headLoad
  rw [Memref.IsWhole.readAt_unread]
  refine congrArg x0 (funext fun d => Fin.ext ?_)
  match d with
  | ⟨0, _⟩ => rfl
  | ⟨1, _⟩ => rfl
  | ⟨2, _⟩ => show 0 + 1 * a.val = a.val; omega
  | ⟨3, _⟩ => show 0 + 1 * s.val = s.val; omega

theorem weightLoad_apply (a : Fin 128) (h : Fin 16) : weightLoad arg2 harg2 x1 (ix2 a h) = x1 (ix2 a h) := by
  unfold weightLoad
  rw [Memref.IsWhole.readAt_unread]
  refine congrArg x1 (funext fun d => Fin.ext ?_)
  match d with
  | ⟨0, _⟩ => show 0 + 1 * a.val = a.val; omega
  | ⟨1, _⟩ => show 0 + 1 * h.val = h.val; omega

/-- The reference's masked scores. -/
abbrev refScores (W : FVec Ideal AllWeights .f32) (R : FVec Ideal AllHeads .f32) : FVec Ideal AllScores .f32 :=
  maskedScores Cert.ReferenceBIdeal.Facts₀.dot_S1x2048x16_S1x16x2048x2048_S1x2048x2048_2_1_n_3_01_02_wf
    Cert.ReferenceBIdeal.Facts₀.bcast_S2048x2048_S1x2048x2048_1_2 Cert.ReferenceBIdeal.Facts₀.bcast_S_S2048x2048
    Cert.ReferenceBIdeal.Facts₀.bcast_S_S1x2048x2048 0xFF800000#32 W R

theorem refScores_apply (W : FVec Ideal AllWeights .f32) (R : FVec Ideal AllHeads .f32) (t s : Fin 2048) :
    refScores W R (ix3 (0 : Fin 1) t s) = if s.val ≤ t.val then
      mixed (fun h => W (ix3 (0 : Fin 1) t h)) (fun h => R (ix4 (0 : Fin 1) h t s)) else Ideal.ofBits .f32 0xFF800000#32 :=
  maskedScores_apply _ _ _ _ _ W R t s

theorem least_word : Ideal.ofBits .f32 0xFF800000#32 = ⊥ := by simp [Ideal.ofBits, Ideal.ieee]

/-- Before it is sorted, a column of the block holds the scores of the reference's row. -/
theorem start_column (W : FVec Ideal AllWeights .f32) (R : FVec Ideal AllHeads .f32) (a : Fin 128) (T : Fin 2048) (hT : T.val = 128 * ((i 0).val + 4) + a.val)
    (hx0 : ∀ (h : Fin 16) (s : Fin 1024), x0 (ix4 (0 : Fin 1) h a s) = R (ix4 (0 : Fin 1) h T (s.castLE (by decide))))
    (hx1 : ∀ h : Fin 16, x1 (ix2 a h) = W (ix3 (0 : Fin 1) T h)) :
    col (start i arg1 harg1 arg2 harg2 x0 x1) a = rowEnt fun s : Fin 1024 => refScores W R (ix3 (0 : Fin 1) T (s.castLE (by decide))) := by
  have hi : (i 0).val < 4 := (i 0).isLt
  have hb : kernelRun0_A.sl.v0 i = BitVec.ofNat 32 ((i 0).val + 4) := by
    show BitVec.ofNat 32 (i 0).val + 4#32 = _
    rw [BitVec.ofNat_add]
  funext s
  refine congrArg₂ ent ?_ (by show BitVec.ofNat 32 (0 * 1024 + s.val) = _; rw [Nat.zero_mul, Nat.zero_add])
  show scoreBlock (kernelRun0_A.sl.v0 i) _ _ _ (ix2 s a) = _
  rw [hb, scoreBlock_apply (by decide) _ (by omega)]
  refine Eq.trans ?_ (refScores_apply W R T (s.castLE (by decide))).symm
  rw [least_word, hT]
  refine if_congr Iff.rfl ?_ rfl
  refine congrArg₂ mixed (funext fun h => ?_) (funext fun h => ?_)
  · rw [weightLoad_apply, hx1]
  · rw [headLoad_apply, hx0]

/-- **The sorted column holds what the reference's selection of that row holds.** -/
theorem sorted_column (W : FVec Ideal AllWeights .f32) (R : FVec Ideal AllHeads .f32) (a : Fin 128) (T : Fin 2048) (hT : T.val = 128 * ((i 0).val + 4) + a.val)
    (hx0 : ∀ (h : Fin 16) (s : Fin 1024), x0 (ix4 (0 : Fin 1) h a s) = R (ix4 (0 : Fin 1) h T (s.castLE (by decide))))
    (hx1 : ∀ h : Fin 16, x1 (ix2 a h) = W (ix3 (0 : Fin 1) T h)) (r : Fin 512) :
    (sorted i arg1 harg1 arg2 harg2 x0 x1).1 (ix2 r a) = (best W R).1 (ix3 (0 : Fin 1) T r)
      ∧ (sorted i arg1 harg1 arg2 harg2 x0 x1).2 (ix2 r a) = (best W R).2 (ix3 (0 : Fin 1) T r) := by
  have hi : (i 0).val < 4 := (i 0).isLt
  refine column_eq_row (n := 1024) _ (refScores W R) _ a T (by decide) (by decide) (fun s hs => ?_) ?_ r
  · rw [refScores_apply, if_neg (by omega), least_word]
  · rw [column_select1024, start_column i arg1 harg1 arg2 harg2 x0 x1 W R a T hT hx0 hx1]

end

/-! ## The arrays -/

section
variable (m : (ℓ : Loc nD τ sig) → Buf (Elt Ideal) ℓ)

theorem points : ∀ t : Fin cfg0.N, (grid0.coords t 0).val = t.val ∧ win0_0.index t 0 = 0 ∧ win0_0.index t 1 = 0 ∧ win0_0.index t 2 = t.val + 4 ∧ win0_0.index t 3 = 0
    ∧ win0_1.index t 0 = t.val + 4 ∧ win0_1.index t 1 = 0 ∧ win0_2.index t 0 = t.val ∧ win0_2.index t 1 = 0 ∧ win0_2.index t 2 = 0
    ∧ win0_3.index t 0 = t.val ∧ win0_3.index t 1 = 0 ∧ win0_3.index t 2 = 0 :=
  (by decide +kernel : ∀ t : Fin grid0.N, (grid0.coords t 0).val = t.val ∧ win0_0.index t 0 = 0 ∧ win0_0.index t 1 = 0 ∧ win0_0.index t 2 = t.val + 4 ∧ win0_0.index t 3 = 0
    ∧ win0_1.index t 0 = t.val + 4 ∧ win0_1.index t 1 = 0 ∧ win0_2.index t 0 = t.val ∧ win0_2.index t 1 = 0 ∧ win0_2.index t 2 = 0
    ∧ win0_3.index t 0 = t.val ∧ win0_3.index t 1 = 0 ∧ win0_3.index t 2 = 0)

theorem block_heads (c : Dev nD) (t : Fin cfg0.N) (R : FVec Ideal AllHeads .f32) (hR : V m c main_v52 = R) (a : Fin 128) (T : Fin 2048)
    (hT : T.val = 128 * (t.val + 4) + a.val) (h : Fin 16) (s : Fin 1024) :
    iblk m c 0 t (ix4 (0 : Fin 1) h a s) = R (ix4 (0 : Fin 1) h T (s.castLE (by decide))) := by
  obtain ⟨-, p0, p1, p2, p3, -⟩ := points t
  unfold iblk
  rw [View.read_apply]
  refine Eq.trans ?_ (congrFun hR _)
  show V m c main_v52 _ = V m c main_v52 _
  refine congrArg (V m c main_v52) (funext fun d => Fin.ext ?_)
  match d with
  | ⟨0, _⟩ => show win0_0.index t 0 * 1 + 1 * 0 = 0; rw [p0]
  | ⟨1, _⟩ => show win0_0.index t 1 * 16 + 1 * h.val = h.val; rw [p1]; omega
  | ⟨2, _⟩ => show win0_0.index t 2 * 128 + 1 * a.val = T.val; rw [p2, hT]; omega
  | ⟨3, _⟩ => show win0_0.index t 3 * 1024 + 1 * s.val = s.val; rw [p3]; omega

theorem block_weights (c : Dev nD) (t : Fin cfg0.N) (W : FVec Ideal AllWeights .f32) (hW : V m c main_v54 = shapeCast S2048x16 W Facts₀.shapeCasts_S1x2048x16_S2048x16)
    (a : Fin 128) (T : Fin 2048) (hT : T.val = 128 * (t.val + 4) + a.val) (h : Fin 16) :
    iblk m c 1 t (ix2 a h) = W (ix3 (0 : Fin 1) T h) := by
  obtain ⟨-, -, -, -, -, p0, p1, -⟩ := points t
  unfold iblk
  rw [View.read_apply]
  refine Eq.trans ?_ ((congrFun hW (ix2 T h)).trans (shapeCast_1ab_ab_apply W _ T h))
  show V m c main_v54 _ = V m c main_v54 _
  refine congrArg (V m c main_v54) (funext fun d => Fin.ext ?_)
  match d with
  | ⟨0, _⟩ => show win0_1.index t 0 * 128 + 1 * a.val = T.val; rw [p0, hT]; omega
  | ⟨1, _⟩ => show win0_1.index t 1 * 16 + 1 * h.val = h.val; rw [p1]; omega

variable (c : Dev nD) (W : FVec Ideal AllWeights .f32) (R : FVec Ideal AllHeads .f32) (hR : V m c main_v52 = R)
  (hW : V m c main_v54 = shapeCast S2048x16 W Facts₀.shapeCasts_S1x2048x16_S2048x16)

/-- The query whose place in the result is lane `a` of block `t`. -/
def query (t : Fin 4) (a : Fin 128) : Fin 2048 := ⟨128 * (t.val + 4) + a.val, by omega⟩

include hR hW in
theorem flushed_values (t : Fin cfg0.N) (r : Fin 512) (a : Fin 128) :
    (dats m 0 c).flushed 2 t (ix3 (0 : Fin 1) r a) = (best W R).1 (ix3 (0 : Fin 1) (query (t.cast N_0) a) r) := by
  rw [Value.flushed2_A, out_values]
  show shapeCast S1x512x128 _ _ (ix3 (0 : Fin 1) r a) = _
  rw [shapeCast_ab_1ab_apply]
  have hT : (query (t.cast N_0) a).val = 128 * ((grid0.coords t 0).val + 4) + a.val := by rw [(points t).1]; rfl
  exact (sorted_column (grid0.coords t) (ms0_0 t) (hs0_0 t) (ms0_1 t) (hs0_1 t) _ _ W R a _ hT (fun h s => block_heads m c t R hR a _ rfl h s)
    (fun h => block_weights m c t W hW a _ rfl h) r).1

include hR hW in
theorem flushed_keys (t : Fin cfg0.N) (r : Fin 512) (a : Fin 128) :
    (dats m 0 c).flushed 3 t (ix3 (0 : Fin 1) r a) = (best W R).2 (ix3 (0 : Fin 1) (query (t.cast N_0) a) r) := by
  rw [Value.flushed3_A, out_keys]
  show shapeCast S1x512x128 _ _ (ix3 (0 : Fin 1) r a) = _
  rw [shapeCast_ab_1ab_apply]
  have hT : (query (t.cast N_0) a).val = 128 * ((grid0.coords t 0).val + 4) + a.val := by rw [(points t).1]; rfl
  exact (sorted_column (grid0.coords t) (ms0_0 t) (hs0_0 t) (ms0_1 t) (hs0_1 t) _ _ W R a _ hT (fun h s => block_heads m c t R hR a _ rfl h s)
    (fun h => block_weights m c t W hW a _ rfl h) r).2

include hR hW in
theorem final_values (t : Fin 4) (r : Fin 512) (a : Fin 128) :
    (dats m 0 c).arrAt 2 cfg0.N (ix3 t r a) = (best W R).1 (ix3 (0 : Fin 1) (query t a) r) := by
  obtain ⟨-, -, -, -, -, -, -, p0, p1, p2, -⟩ := points (t.cast N_0.symm)
  rw [← show (t.cast N_0.symm).cast N_0 = t from rfl, ← flushed_values m c W R hR hW (t.cast N_0.symm) r a, ← Value.blocks2 m c _ (flush0_2 _), View.read_apply]
  show (dats m 0 c).arrAt 2 cfg0.N _ = (dats m 0 c).arrAt 2 cfg0.N _
  refine congrArg ((dats m 0 c).arrAt 2 cfg0.N) (funext fun d => Fin.ext ?_)
  match d with
  | ⟨0, _⟩ => show t.val = win0_2.index (t.cast N_0.symm) 0 * 1 + 1 * 0; rw [p0]; simp
  | ⟨1, _⟩ => show r.val = win0_2.index (t.cast N_0.symm) 1 * 512 + 1 * r.val; rw [p1]; omega
  | ⟨2, _⟩ => show a.val = win0_2.index (t.cast N_0.symm) 2 * 128 + 1 * a.val; rw [p2]; omega

include hR hW in
theorem final_keys (t : Fin 4) (r : Fin 512) (a : Fin 128) :
    (dats m 0 c).arrAt 3 cfg0.N (ix3 t r a) = (best W R).2 (ix3 (0 : Fin 1) (query t a) r) := by
  obtain ⟨-, -, -, -, -, -, -, -, -, -, p0, p1, p2⟩ := points (t.cast N_0.symm)
  rw [← show (t.cast N_0.symm).cast N_0 = t from rfl, ← flushed_keys m c W R hR hW (t.cast N_0.symm) r a, ← Value.blocks3 m c _ (flush0_3 _), View.read_apply]
  show (dats m 0 c).arrAt 3 cfg0.N _ = (dats m 0 c).arrAt 3 cfg0.N _
  refine congrArg ((dats m 0 c).arrAt 3 cfg0.N) (funext fun d => Fin.ext ?_)
  match d with
  | ⟨0, _⟩ => show t.val = win0_3.index (t.cast N_0.symm) 0 * 1 + 1 * 0; rw [p0]; simp
  | ⟨1, _⟩ => show r.val = win0_3.index (t.cast N_0.symm) 1 * 512 + 1 * r.val; rw [p1]; omega
  | ⟨2, _⟩ => show a.val = win0_3.index (t.cast N_0.symm) 2 * 128 + 1 * a.val; rw [p2]; omega

/-- **The second call's two results are the reference's.** -/
theorem results (m' : (ℓ : Loc Cert.ReferenceBIdeal.nD Cert.ReferenceBIdeal.τ Cert.ReferenceBIdeal.sig) → Buf (Elt Ideal) ℓ)
    (e0 : m' ((c.tc : Thread Cert.ReferenceBIdeal.nD Cert.ReferenceBIdeal.τ).loc Cert.ReferenceBIdeal.main_arg0) = m ((c.tc : Thread nD τ).loc main_arg0))
    (e1 : m' ((c.tc : Thread Cert.ReferenceBIdeal.nD Cert.ReferenceBIdeal.τ).loc Cert.ReferenceBIdeal.main_arg1) = m ((c.tc : Thread nD τ).loc main_arg1))
    (e2 : m' ((c.tc : Thread Cert.ReferenceBIdeal.nD Cert.ReferenceBIdeal.τ).loc Cert.ReferenceBIdeal.main_arg2) = m ((c.tc : Thread nD τ).loc main_arg2))
    (e3 : m' ((c.tc : Thread Cert.ReferenceBIdeal.nD Cert.ReferenceBIdeal.τ).loc Cert.ReferenceBIdeal.main_arg3) = m ((c.tc : Thread nD τ).loc main_arg3)) :
    (dats m 0 c).arrAt 2 cfg0.N = Cert.ReferenceBIdeal.Value.res_main_v63 m' c ∧ (dats m 0 c).arrAt 3 cfg0.N = Cert.ReferenceBIdeal.Value.res_main_v67 m' c := by
  obtain ⟨W, R, hv, hk, hR, hW⟩ := host_agree m m' c e0 e1 e2 e3
  refine ⟨funext fun (x : (⟨3, ![4, 512, 128]⟩ : Shape).Idx) => ?_, funext fun (x : (⟨3, ![4, 512, 128]⟩ : Shape).Idx) => ?_⟩ <;>
    obtain ⟨t, r, a, rfl⟩ : ∃ (t : Fin 4) (r : Fin 512) (a : Fin 128), x = ix3 t r a := ⟨_, _, _, eq_ix3 x⟩
  · refine (final_values m c W R hR hW t r a).trans (Eq.trans ?_ (congrFun hv (ix3 t r a)).symm)
    exact (turned_rows rfl (best W R).1 _ _ _ _ t r a _ (by show 128 * (t.val + 4) + a.val = 512 + (128 * t.val + a.val); omega)).symm
  · refine (final_keys m c W R hR hW t r a).trans (Eq.trans ?_ (congrFun hk (ix3 t r a)).symm)
    exact (turned_rows rfl (best W R).2 _ _ _ _ t r a _ (by show 128 * (t.val + 4) + a.val = 512 + (128 * t.val + a.val); omega)).symm

end

end Cert.NetB

end
-- ==== Proof.LinkC.lean ====
/- The kernel on blocks of 2048 keys, put in terms of the named stages: what it stores is the masked scores
   sorted in chunks of 512 and the chunks halved twice. -/
module

public import proofs.«01_k».proof.Proof.Gen.KernelCIdeal.Value
public import proofs.«01_k».proof.Proof.Halving
public import proofs.«01_k».proof.Proof.Scores

@[expose] public section

set_option maxRecDepth 65536

noncomputable section

namespace Cert.NetC

open Cert.KernelCIdeal Cert.KernelCIdeal.Gen Idealize.ShloMosaic Idealize.ShloMosaic.TcCoe Cert.Net

variable {F : FTy → Type} [FloatOps F]

section
variable (c : Dev nD) (i : grid0.Coords) (arg1 : Memref sig .tc .vmem S1x16x128x2048 .bf16) (harg1 : arg1.IsWhole)
  (arg2 : Memref sig .tc .vmem S128x16 .bf16) (harg2 : arg2.IsWhole) (arg3 : Memref sig .tc .vmem S1x512x128 .f32) (harg3 : arg3.IsWhole)
  (arg4 : Memref sig .tc .vmem S1x512x128 .i32) (harg4 : arg4.IsWhole) (arg5 : Memref sig .tc .vmem S8x128 .f32) (harg5 : arg5.IsWhole)
  (x0 : Vec F S1x16x128x2048 .bf16) (x1 : Vec F S128x16 .bf16)

theorem inb_head (h : Nat) (hh : h < 16) : ∀ a, (![0, h, 0, 0] : Fin 4 → Nat) a + S1x1x128x2048.size a ≤ S1x16x128x2048.size a :=
  fun a => by fin_cases a <;> simp <;> omega

/-- One head's scores as the kernel loads them. -/
def headLoad (h : Nat) (hh : h < 16) : FVec F (HeadLoad 2048) .bf16 :=
  View.readAt (Elt F) arg1.view (Rect.unit (s := S1x16x128x2048) ![0, h, 0, 0] S1x1x128x2048.size (inb_head h hh)).toLoadRect (harg1.unread x0)

/-- The weights as the kernel loads them. -/
def weightLoad : FVec F Weights .bf16 :=
  View.readAt (Elt F) arg2.view (Rect.unit (s := S128x16) ![0, 0] S128x16.size inb_S128x16_S128x16_0_0).toLoadRect (harg2.unread x1)

/-- The masked scores and the key numbers, as the kernel's sort finds them. -/
def start : Pair F 2048 :=
  (scoreBlock (kernelRun0_A.sl.v0 i) (Scalar.ofBits .f32 0xFF7FFFFF#32) (weightLoad arg2 harg2 x1) (headLoad arg1 harg1 x0), keyIds 2048)

theorem first_levels : (kernelRun0_A.sl.r_54 c i arg1 harg1 arg2 harg2 x0 x1, kernelRun0_A.sl.r_55 c i arg1 harg1 arg2 harg2 x0 x1)
    = (netStage (p := 11) (n := 2048) rfl 6 2 (by decide) <| netStage (p := 11) (n := 2048) rfl 6 3 (by decide) <| netStage (p := 11) (n := 2048) rfl 6 4 (by decide) <| netStage (p := 11) (n := 2048) rfl 6 5 (by decide) <| netLevels (p := 11) (n := 2048) rfl 5 (by decide) (start i arg1 harg1 arg2 harg2 x0 x1)) := by
  sl_kernel_rfl

theorem middle_levels : (kernelRun0_A.sl.r_89 c i arg1 harg1 arg2 harg2 x0 x1, kernelRun0_A.sl.r_90 c i arg1 harg1 arg2 harg2 x0 x1)
    = (netStage (p := 11) (n := 2048) rfl 8 3 (by decide) <| netStage (p := 11) (n := 2048) rfl 8 4 (by decide) <| netStage (p := 11) (n := 2048) rfl 8 5 (by decide) <| netStage (p := 11) (n := 2048) rfl 8 6 (by decide) <| netStage (p := 11) (n := 2048) rfl 8 7 (by decide) <| netDown (p := 11) (n := 2048) rfl 7 6 (by decide) <| netDown (p := 11) (n := 2048) rfl 6 1 (by decide) (kernelRun0_A.sl.r_54 c i arg1 harg1 arg2 harg2 x0 x1, kernelRun0_A.sl.r_55 c i arg1 harg1 arg2 harg2 x0 x1)) := by
  sl_kernel_rfl

theorem late_levels : (kernelRun0_A.sl.r_124 c i arg1 harg1 arg2 harg2 x0 x1, kernelRun0_A.sl.r_125 c i arg1 harg1 arg2 harg2 x0 x1)
    = (netStage (p := 11) (n := 2048) rfl 9 1 (by decide) <| netStage (p := 11) (n := 2048) rfl 9 2 (by decide) <| netStage (p := 11) (n := 2048) rfl 9 3 (by decide) <| netStage (p := 11) (n := 2048) rfl 9 4 (by decide) <| netStage (p := 11) (n := 2048) rfl 9 5 (by decide) <| netStage (p := 11) (n := 2048) rfl 9 6 (by decide) <| netStage (p := 11) (n := 2048) rfl 9 7 (by decide) <| netStage (p := 11) (n := 2048) rfl 9 8 (by decide) <| netDown (p := 11) (n := 2048) rfl 8 2 (by decide) (kernelRun0_A.sl.r_89 c i arg1 harg1 arg2 harg2 x0 x1, kernelRun0_A.sl.r_90 c i arg1 harg1 arg2 harg2 x0 x1)) := by
  sl_kernel_rfl

theorem levels : netStage (p := 11) (n := 2048) rfl 9 0 (by decide) (kernelRun0_A.sl.r_124 c i arg1 harg1 arg2 harg2 x0 x1, kernelRun0_A.sl.r_125 c i arg1 harg1 arg2 harg2 x0 x1) = netLevels (p := 11) (n := 2048) rfl 9 (by decide) (start i arg1 harg1 arg2 harg2 x0 x1) := by
  rw [late_levels, middle_levels, first_levels]
  simp only [netLevels_step _ 8, netLevels_step _ 7, netLevels_step _ 6, netLevels_step _ 5, netDown_step, netDown_last]

theorem first_merges : (kernelRun0_A.sl.r_149 c i arg1 harg1 arg2 harg2 x0 x1, kernelRun0_A.sl.r_150 c i arg1 harg1 arg2 harg2 x0 x1)
    = (let s := netStage (p := 11) (n := 2048) rfl 10 9 (by decide) <| netStage (p := 11) (n := 2048) rfl 9 0 (by decide) (kernelRun0_A.sl.r_124 c i arg1 harg1 arg2 harg2 x0 x1, kernelRun0_A.sl.r_125 c i arg1 harg1 arg2 harg2 x0 x1)
      (netStage (p := 10) (n := 1024) rfl 9 1 (by decide) <| netStage (p := 10) (n := 1024) rfl 9 2 (by decide) <| netStage (p := 10) (n := 1024) rfl 9 3 (by decide) <| netStage (p := 10) (n := 1024) rfl 9 4 (by decide) <| netStage (p := 10) (n := 1024) rfl 9 5 (by decide) <| netStage (p := 10) (n := 1024) rfl 9 6 (by decide) <| netStage (p := 10) (n := 1024) rfl 9 7 (by decide) <| netStage (p := 10) (n := 1024) rfl 9 8 (by decide) <| (ends s.1, ends s.2))) := by
  sl_kernel_rfl

theorem merges : netStage (p := 10) (n := 1024) rfl 9 0 (by decide) (kernelRun0_A.sl.r_149 c i arg1 harg1 arg2 harg2 x0 x1, kernelRun0_A.sl.r_150 c i arg1 harg1 arg2 harg2 x0 x1) = halve2048 (netLevels (p := 11) (n := 2048) rfl 9 (by decide) (start i arg1 harg1 arg2 harg2 x0 x1)) := by
  rw [first_merges, levels]
  simp only [halve2048, netDown_step, netDown_last]

theorem stored_values_late : (kernelRun0_A c i arg1 harg1 arg2 harg2 arg3 harg3 arg4 harg4 arg5 harg5 x0 x1).1 =
    [⟨Rect.unit ![0, 0, 0] ![1, 512, 128] inb_S1x512x128_S1x512x128_0_0_0,
      shapeCast S1x512x128 (halve1024 (netStage (p := 10) (n := 1024) rfl 9 0 (by decide) (kernelRun0_A.sl.r_149 c i arg1 harg1 arg2 harg2 x0 x1, kernelRun0_A.sl.r_150 c i arg1 harg1 arg2 harg2 x0 x1))).1
        shapeCasts_S512x128_S1x512x128⟩] := by
  sl_kernel_rfl

theorem stored_values : (kernelRun0_A c i arg1 harg1 arg2 harg2 arg3 harg3 arg4 harg4 arg5 harg5 x0 x1).1 =
    [⟨Rect.unit ![0, 0, 0] ![1, 512, 128] inb_S1x512x128_S1x512x128_0_0_0,
      shapeCast S1x512x128 (select2048 (start i arg1 harg1 arg2 harg2 x0 x1)).1 shapeCasts_S512x128_S1x512x128⟩] := by
  rw [stored_values_late, merges, select2048]

theorem stored_keys_late : (kernelRun0_A c i arg1 harg1 arg2 harg2 arg3 harg3 arg4 harg4 arg5 harg5 x0 x1).2.1 =
    [⟨Rect.unit ![0, 0, 0] ![1, 512, 128] inb_S1x512x128_S1x512x128_0_0_0,
      shapeCast S1x512x128 (halve1024 (netStage (p := 10) (n := 1024) rfl 9 0 (by decide) (kernelRun0_A.sl.r_149 c i arg1 harg1 arg2 harg2 x0 x1, kernelRun0_A.sl.r_150 c i arg1 harg1 arg2 harg2 x0 x1))).2
        shapeCasts_S512x128_S1x512x128⟩] := by
  sl_kernel_rfl

theorem stored_keys : (kernelRun0_A c i arg1 harg1 arg2 harg2 arg3 harg3 arg4 harg4 arg5 harg5 x0 x1).2.1 =
    [⟨Rect.unit ![0, 0, 0] ![1, 512, 128] inb_S1x512x128_S1x512x128_0_0_0,
      shapeCast S1x512x128 (select2048 (start i arg1 harg1 arg2 harg2 x0 x1)).2 shapeCasts_S512x128_S1x512x128⟩] := by
  rw [stored_keys_late, merges, select2048]

end

end Cert.NetC

end
-- ==== Proof.HostC.lean ====
/- The host's part of the third call (blocks of 2048 keys) and of its reference: both compute the same weights and the
   same scores of the heads. -/
module

public import proofs.«01_k».proof.Proof.Gen.KernelCIdeal.Value
public import proofs.«01_k».proof.Proof.Gen.ReferenceCIdeal.Run
public import proofs.«01_k».proof.Proof.RefRead

@[expose] public section

noncomputable section

namespace Cert.NetC

open Idealize.ShloMosaic Idealize.ShloMosaic.TcCoe Cert.Net

/-- The reference's selection of the best keys, from the weights and the heads' scores. -/
abbrev best (W : FVec Ideal AllWeights .f32) (R : FVec Ideal AllHeads .f32) :=
  Host.topK (⟨3, ![1, 2048, 512]⟩ : Shape) 2 (FloatOps.cmpfTotal .gt)
    (maskedScores Cert.ReferenceCIdeal.Facts₀.dot_S1x2048x16_S1x16x2048x2048_S1x2048x2048_2_1_n_3_01_02_wf
      Cert.ReferenceCIdeal.Facts₀.bcast_S2048x2048_S1x2048x2048_1_2 Cert.ReferenceCIdeal.Facts₀.bcast_S_S2048x2048
      Cert.ReferenceCIdeal.Facts₀.bcast_S_S1x2048x2048 0xFF7FFFFF#32 W R) Cert.ReferenceCIdeal.Facts₀.sliceFits_S1x2048x2048_S1x2048x512

theorem host_agree (m : (ℓ : Loc Cert.KernelCIdeal.nD Cert.KernelCIdeal.τ Cert.KernelCIdeal.sig) → Buf (Elt Ideal) ℓ)
    (m' : (ℓ : Loc Cert.ReferenceCIdeal.nD Cert.ReferenceCIdeal.τ Cert.ReferenceCIdeal.sig) → Buf (Elt Ideal) ℓ) (c : Dev Cert.KernelCIdeal.nD)
    (e0 : m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0))
    (e1 : m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1))
    (e2 : m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2))
    (e3 : m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)) :
    ∃ (W : FVec Ideal AllWeights .f32) (R : FVec Ideal AllHeads .f32),
      Cert.ReferenceCIdeal.Value.res_main_v63 m' c = transpose Cert.ReferenceCIdeal.S8x512x128 [0, 2, 1] (shapeCast Cert.ReferenceCIdeal.S8x128x512 (shapeCast Cert.ReferenceCIdeal.S1024x512
          (extractStridedSlice Cert.ReferenceCIdeal.S1x1024x512 ![0, 1024, 0] (best W R).1 Cert.ReferenceCIdeal.Facts₀.slices_S1x2048x512_S1x1024x512_0_1024_0)
          Cert.ReferenceCIdeal.Facts₀.shapeCasts_S1x1024x512_S1024x512) Cert.ReferenceCIdeal.Facts₀.shapeCasts_S1024x512_S8x128x512) Cert.ReferenceCIdeal.Facts₀.transposes_S8x128x512_S8x512x128_0_2_1
      ∧ Cert.ReferenceCIdeal.Value.res_main_v67 m' c = transpose Cert.ReferenceCIdeal.S8x512x128 [0, 2, 1] (shapeCast Cert.ReferenceCIdeal.S8x128x512 (shapeCast Cert.ReferenceCIdeal.S1024x512
          (extractStridedSlice Cert.ReferenceCIdeal.S1x1024x512 ![0, 1024, 0] (best W R).2 Cert.ReferenceCIdeal.Facts₀.slices_S1x2048x512_S1x1024x512_0_1024_0)
          Cert.ReferenceCIdeal.Facts₀.shapeCasts_S1x1024x512_S1024x512) Cert.ReferenceCIdeal.Facts₀.shapeCasts_S1024x512_S8x128x512) Cert.ReferenceCIdeal.Facts₀.transposes_S8x128x512_S8x512x128_0_2_1
      ∧ Cert.KernelCIdeal.Gen.V m c Cert.KernelCIdeal.main_v52 = R
      ∧ Cert.KernelCIdeal.Gen.V m c Cert.KernelCIdeal.main_v54 = shapeCast Cert.KernelCIdeal.S2048x16 W Cert.KernelCIdeal.Facts₀.shapeCasts_S1x2048x16_S2048x16 := by
  unfold Cert.ReferenceCIdeal.Value.res_main_v63 Cert.ReferenceCIdeal.Value.res_main_v67
  rw [e0, e1, e2, e3]
  refine ⟨_, _, rfl, rfl, ?_, ?_⟩
  all_goals
    simp only [Cert.KernelCIdeal.Gen.V, Cert.KernelCIdeal.Gen.hostOps0, Cert.KernelCIdeal.Gen.hostOps0_1, Cert.KernelCIdeal.Gen.hostOps0_2, List.flatten_cons,
      List.flatten_nil, List.append_nil, List.cons_append, List.nil_append, StableHlo.TRef.binary, StableHlo.TRef.nullary, StableHlo.TRef.ternary,
      StableHlo.TRef.unary, StableHlo.TRef.toBuf, StableHlo.TRef.ofBuf, cast_eq]
    after_results_simp
    try dsimp only [Matrix.cons_val]
    try after_results_simp
    rfl

end Cert.NetC

end
-- ==== Proof.FinalC.lean ====
/- The third call's results: block by block its columns hold the best 512 keys of the reference's rows. -/
module

public import proofs.«01_k».proof.Proof.LinkC
public import proofs.«01_k».proof.Proof.HostC
public import proofs.«01_k».proof.Proof.Halving
public import Idealize.ShloMosaic.Lib.WholeRead

@[expose] public section

set_option maxRecDepth 65536

noncomputable section

namespace Cert.NetC

open Cert.KernelCIdeal Cert.KernelCIdeal.Gen Idealize.ShloMosaic Idealize.ShloMosaic.TcCoe Idealize.ShloMosaic.ValueIdx Idealize.ShloMosaic.SortNet Cert.Net

/-! ## One block -/

section
variable (c : Dev nD) (i : grid0.Coords) (arg1 : Memref sig .tc .vmem S1x16x128x2048 .bf16) (harg1 : arg1.IsWhole)
  (arg2 : Memref sig .tc .vmem S128x16 .bf16) (harg2 : arg2.IsWhole) (arg3 : Memref sig .tc .vmem S1x512x128 .f32) (harg3 : arg3.IsWhole)
  (arg4 : Memref sig .tc .vmem S1x512x128 .i32) (harg4 : arg4.IsWhole) (arg5 : Memref sig .tc .vmem S8x128 .f32) (harg5 : arg5.IsWhole)
  (x0 : Vec Ideal S1x16x128x2048 .bf16) (x1 : Vec Ideal S128x16 .bf16)

theorem zero3 : (![0, 0, 0] : Fin 3 → Nat) = fun _ => 0 := funext fun a => by fin_cases a <;> rfl

/-- The sorted block of scores and keys. -/
abbrev sorted : Pair Ideal 512 := select2048 (start i arg1 harg1 arg2 harg2 x0 x1)

theorem out_values : out0_A_2 c i arg1 harg1 arg2 harg2 arg3 harg3 arg4 harg4 arg5 harg5 x0 x1
    = shapeCast S1x512x128 (sorted i arg1 harg1 arg2 harg2 x0 x1).1 shapeCasts_S512x128_S1x512x128 := by
  unfold out0_A_2
  rw [View.read_writes_junk_eq_canon, stored_values]
  exact View.canon_unit_zero (S := S1x512x128) zero3 _ _

theorem out_keys : out0_A_3 c i arg1 harg1 arg2 harg2 arg3 harg3 arg4 harg4 arg5 harg5 x0 x1
    = shapeCast S1x512x128 (sorted i arg1 harg1 arg2 harg2 x0 x1).2 shapeCasts_S512x128_S1x512x128 := by
  unfold out0_A_3
  rw [View.read_writes_junk_eq_canon, stored_keys]
  exact View.canon_unit_zero (S := S1x512x128) zero3 _ _

theorem headLoad_apply (h : Nat) (hh : h < 16) (a : Fin 128) (s : Fin 2048) :
    headLoad arg1 harg1 x0 h hh (ix4 (0 : Fin 1) (0 : Fin 1) a s) = x0 (ix4 (0 : Fin 1) ⟨h, hh⟩ a s) := by
  unfold headLoad
  rw [Memref.IsWhole.readAt_unread]
  refine congrArg x0 (funext fun d => Fin.ext ?_)
  match d with
  | ⟨0, _⟩ => rfl
  | ⟨1, _⟩ => rfl
  | ⟨2, _⟩ => show 0 + 1 * a.val = a.val; omega
  | ⟨3, _⟩ => show 0 + 1 * s.val = s.val; omega

theorem weightLoad_apply (a : Fin 128) (h : Fin 16) : weightLoad arg2 harg2 x1 (ix2 a h) = x1 (ix2 a h) := by
  unfold weightLoad
  rw [Memref.IsWhole.readAt_unread]
  refine congrArg x1 (funext fun d => Fin.ext ?_)
  match d with
  | ⟨0, _⟩ => show 0 + 1 * a.val = a.val; omega
  | ⟨1, _⟩ => show 0 + 1 * h.val = h.val; omega

/-- The reference's masked scores. -/
abbrev refScores (W : FVec Ideal AllWeights .f32) (R : FVec Ideal AllHeads .f32) : FVec Ideal AllScores .f32 :=
  maskedScores Cert.ReferenceCIdeal.Facts₀.dot_S1x2048x16_S1x16x2048x2048_S1x2048x2048_2_1_n_3_01_02_wf
    Cert.ReferenceCIdeal.Facts₀.bcast_S2048x2048_S1x2048x2048_1_2 Cert.ReferenceCIdeal.Facts₀.bcast_S_S2048x2048
    Cert.ReferenceCIdeal.Facts₀.bcast_S_S1x2048x2048 0xFF7FFFFF#32 W R

theorem refScores_apply (W : FVec Ideal AllWeights .f32) (R : FVec Ideal AllHeads .f32) (t s : Fin 2048) :
    refScores W R (ix3 (0 : Fin 1) t s) = if s.val ≤ t.val then
      mixed (fun h => W (ix3 (0 : Fin 1) t h)) (fun h => R (ix4 (0 : Fin 1) h t s)) else Ideal.ofBits .f32 0xFF7FFFFF#32 :=
  maskedScores_apply _ _ _ _ _ W R t s

/-- Before it is sorted, a column of the block holds the scores of the reference's row. -/
theorem start_column (W : FVec Ideal AllWeights .f32) (R : FVec Ideal AllHeads .f32) (a : Fin 128) (T : Fin 2048) (hT : T.val = 128 * ((i 0).val + 8) + a.val)
    (hx0 : ∀ (h : Fin 16) (s : Fin 2048), x0 (ix4 (0 : Fin 1) h a s) = R (ix4 (0 : Fin 1) h T (s.castLE (by decide))))
    (hx1 : ∀ h : Fin 16, x1 (ix2 a h) = W (ix3 (0 : Fin 1) T h)) :
    col (start i arg1 harg1 arg2 harg2 x0 x1) a = rowEnt fun s : Fin 2048 => refScores W R (ix3 (0 : Fin 1) T (s.castLE (by decide))) := by
  have hi : (i 0).val < 8 := (i 0).isLt
  have hb : kernelRun0_A.sl.v0 i = BitVec.ofNat 32 ((i 0).val + 8) := by
    show BitVec.ofNat 32 (i 0).val + 8#32 = _
    rw [BitVec.ofNat_add]
  funext s
  refine congrArg₂ ent ?_ (by show BitVec.ofNat 32 (0 * 2048 + s.val) = _; rw [Nat.zero_mul, Nat.zero_add])
  show scoreBlock (kernelRun0_A.sl.v0 i) _ _ _ (ix2 s a) = _
  rw [hb, scoreBlock_apply (by decide) _ (by omega)]
  refine Eq.trans ?_ (refScores_apply W R T (s.castLE (by decide))).symm
  rw [hT]
  refine if_congr Iff.rfl ?_ rfl
  refine congrArg₂ mixed (funext fun h => ?_) (funext fun h => ?_)
  · rw [weightLoad_apply, hx1]
  · rw [headLoad_apply, hx0]

/-- **The sorted column holds what the reference's selection of that row holds.** -/
theorem sorted_column (W : FVec Ideal AllWeights .f32) (R : FVec Ideal AllHeads .f32) (a : Fin 128) (T : Fin 2048) (hT : T.val = 128 * ((i 0).val + 8) + a.val)
    (hx0 : ∀ (h : Fin 16) (s : Fin 2048), x0 (ix4 (0 : Fin 1) h a s) = R (ix4 (0 : Fin 1) h T (s.castLE (by decide))))
    (hx1 : ∀ h : Fin 16, x1 (ix2 a h) = W (ix3 (0 : Fin 1) T h)) (r : Fin 512) :
    (sorted i arg1 harg1 arg2 harg2 x0 x1).1 (ix2 r a) = (best W R).1 (ix3 (0 : Fin 1) T r)
      ∧ (sorted i arg1 harg1 arg2 harg2 x0 x1).2 (ix2 r a) = (best W R).2 (ix3 (0 : Fin 1) T r) := by
  have hi : (i 0).val < 8 := (i 0).isLt
  refine column_eq_row (n := 2048) _ (refScores W R) _ a T (by decide) (by decide) (fun s hs => ?_) ?_ r
  · exact absurd s.isLt (Nat.not_lt.2 hs)
  · rw [column_select2048, start_column i arg1 harg1 arg2 harg2 x0 x1 W R a T hT hx0 hx1]

end

/-! ## The arrays -/

section
variable (m : (ℓ : Loc nD τ sig) → Buf (Elt Ideal) ℓ)

theorem points : ∀ t : Fin cfg0.N, (grid0.coords t 0).val = t.val ∧ win0_0.index t 0 = 0 ∧ win0_0.index t 1 = 0 ∧ win0_0.index t 2 = t.val + 8 ∧ win0_0.index t 3 = 0
    ∧ win0_1.index t 0 = t.val + 8 ∧ win0_1.index t 1 = 0 ∧ win0_2.index t 0 = t.val ∧ win0_2.index t 1 = 0 ∧ win0_2.index t 2 = 0
    ∧ win0_3.index t 0 = t.val ∧ win0_3.index t 1 = 0 ∧ win0_3.index t 2 = 0 :=
  (by decide +kernel : ∀ t : Fin grid0.N, (grid0.coords t 0).val = t.val ∧ win0_0.index t 0 = 0 ∧ win0_0.index t 1 = 0 ∧ win0_0.index t 2 = t.val + 8 ∧ win0_0.index t 3 = 0
    ∧ win0_1.index t 0 = t.val + 8 ∧ win0_1.index t 1 = 0 ∧ win0_2.index t 0 = t.val ∧ win0_2.index t 1 = 0 ∧ win0_2.index t 2 = 0
    ∧ win0_3.index t 0 = t.val ∧ win0_3.index t 1 = 0 ∧ win0_3.index t 2 = 0)

theorem block_heads (c : Dev nD) (t : Fin cfg0.N) (R : FVec Ideal AllHeads .f32) (hR : V m c main_v52 = R) (a : Fin 128) (T : Fin 2048)
    (hT : T.val = 128 * (t.val + 8) + a.val) (h : Fin 16) (s : Fin 2048) :
    iblk m c 0 t (ix4 (0 : Fin 1) h a s) = R (ix4 (0 : Fin 1) h T (s.castLE (by decide))) := by
  obtain ⟨-, p0, p1, p2, p3, -⟩ := points t
  unfold iblk
  rw [View.read_apply]
  refine Eq.trans ?_ (congrFun hR _)
  show V m c main_v52 _ = V m c main_v52 _
  refine congrArg (V m c main_v52) (funext fun d => Fin.ext ?_)
  match d with
  | ⟨0, _⟩ => show win0_0.index t 0 * 1 + 1 * 0 = 0; rw [p0]
  | ⟨1, _⟩ => show win0_0.index t 1 * 16 + 1 * h.val = h.val; rw [p1]; omega
  | ⟨2, _⟩ => show win0_0.index t 2 * 128 + 1 * a.val = T.val; rw [p2, hT]; omega
  | ⟨3, _⟩ => show win0_0.index t 3 * 2048 + 1 * s.val = s.val; rw [p3]; omega

theorem block_weights (c : Dev nD) (t : Fin cfg0.N) (W : FVec Ideal AllWeights .f32) (hW : V m c main_v54 = shapeCast S2048x16 W Facts₀.shapeCasts_S1x2048x16_S2048x16)
    (a : Fin 128) (T : Fin 2048) (hT : T.val = 128 * (t.val + 8) + a.val) (h : Fin 16) :
    iblk m c 1 t (ix2 a h) = W (ix3 (0 : Fin 1) T h) := by
  obtain ⟨-, -, -, -, -, p0, p1, -⟩ := points t
  unfold iblk
  rw [View.read_apply]
  refine Eq.trans ?_ ((congrFun hW (ix2 T h)).trans (shapeCast_1ab_ab_apply W _ T h))
  show V m c main_v54 _ = V m c main_v54 _
  refine congrArg (V m c main_v54) (funext fun d => Fin.ext ?_)
  match d with
  | ⟨0, _⟩ => show win0_1.index t 0 * 128 + 1 * a.val = T.val; rw [p0, hT]; omega
  | ⟨1, _⟩ => show win0_1.index t 1 * 16 + 1 * h.val = h.val; rw [p1]; omega

variable (c : Dev nD) (W : FVec Ideal AllWeights .f32) (R : FVec Ideal AllHeads .f32) (hR : V m c main_v52 = R)
  (hW : V m c main_v54 = shapeCast S2048x16 W Facts₀.shapeCasts_S1x2048x16_S2048x16)

/-- The query whose place in the result is lane `a` of block `t`. -/
def query (t : Fin 8) (a : Fin 128) : Fin 2048 := ⟨128 * (t.val + 8) + a.val, by omega⟩

include hR hW in
theorem flushed_values (t : Fin cfg0.N) (r : Fin 512) (a : Fin 128) :
    (dats m 0 c).flushed 2 t (ix3 (0 : Fin 1) r a) = (best W R).1 (ix3 (0 : Fin 1) (query (t.cast N_0) a) r) := by
  rw [Value.flushed2_A, out_values]
  show shapeCast S1x512x128 _ _ (ix3 (0 : Fin 1) r a) = _
  rw [shapeCast_ab_1ab_apply]
  have hT : (query (t.cast N_0) a).val = 128 * ((grid0.coords t 0).val + 8) + a.val := by rw [(points t).1]; rfl
  exact (sorted_column (grid0.coords t) (ms0_0 t) (hs0_0 t) (ms0_1 t) (hs0_1 t) _ _ W R a _ hT (fun h s => block_heads m c t R hR a _ rfl h s)
    (fun h => block_weights m c t W hW a _ rfl h) r).1

include hR hW in
theorem flushed_keys (t : Fin cfg0.N) (r : Fin 512) (a : Fin 128) :
    (dats m 0 c).flushed 3 t (ix3 (0 : Fin 1) r a) = (best W R).2 (ix3 (0 : Fin 1) (query (t.cast N_0) a) r) := by
  rw [Value.flushed3_A, out_keys]
  show shapeCast S1x512x128 _ _ (ix3 (0 : Fin 1) r a) = _
  rw [shapeCast_ab_1ab_apply]
  have hT : (query (t.cast N_0) a).val = 128 * ((grid0.coords t 0).val + 8) + a.val := by rw [(points t).1]; rfl
  exact (sorted_column (grid0.coords t) (ms0_0 t) (hs0_0 t) (ms0_1 t) (hs0_1 t) _ _ W R a _ hT (fun h s => block_heads m c t R hR a _ rfl h s)
    (fun h => block_weights m c t W hW a _ rfl h) r).2

include hR hW in
theorem final_values (t : Fin 8) (r : Fin 512) (a : Fin 128) :
    (dats m 0 c).arrAt 2 cfg0.N (ix3 t r a) = (best W R).1 (ix3 (0 : Fin 1) (query t a) r) := by
  obtain ⟨-, -, -, -, -, -, -, p0, p1, p2, -⟩ := points (t.cast N_0.symm)
  rw [← show (t.cast N_0.symm).cast N_0 = t from rfl, ← flushed_values m c W R hR hW (t.cast N_0.symm) r a, ← Value.blocks2 m c _ (flush0_2 _), View.read_apply]
  show (dats m 0 c).arrAt 2 cfg0.N _ = (dats m 0 c).arrAt 2 cfg0.N _
  refine congrArg ((dats m 0 c).arrAt 2 cfg0.N) (funext fun d => Fin.ext ?_)
  match d with
  | ⟨0, _⟩ => show t.val = win0_2.index (t.cast N_0.symm) 0 * 1 + 1 * 0; rw [p0]; simp
  | ⟨1, _⟩ => show r.val = win0_2.index (t.cast N_0.symm) 1 * 512 + 1 * r.val; rw [p1]; omega
  | ⟨2, _⟩ => show a.val = win0_2.index (t.cast N_0.symm) 2 * 128 + 1 * a.val; rw [p2]; omega

include hR hW in
theorem final_keys (t : Fin 8) (r : Fin 512) (a : Fin 128) :
    (dats m 0 c).arrAt 3 cfg0.N (ix3 t r a) = (best W R).2 (ix3 (0 : Fin 1) (query t a) r) := by
  obtain ⟨-, -, -, -, -, -, -, -, -, -, p0, p1, p2⟩ := points (t.cast N_0.symm)
  rw [← show (t.cast N_0.symm).cast N_0 = t from rfl, ← flushed_keys m c W R hR hW (t.cast N_0.symm) r a, ← Value.blocks3 m c _ (flush0_3 _), View.read_apply]
  show (dats m 0 c).arrAt 3 cfg0.N _ = (dats m 0 c).arrAt 3 cfg0.N _
  refine congrArg ((dats m 0 c).arrAt 3 cfg0.N) (funext fun d => Fin.ext ?_)
  match d with
  | ⟨0, _⟩ => show t.val = win0_3.index (t.cast N_0.symm) 0 * 1 + 1 * 0; rw [p0]; simp
  | ⟨1, _⟩ => show r.val = win0_3.index (t.cast N_0.symm) 1 * 512 + 1 * r.val; rw [p1]; omega
  | ⟨2, _⟩ => show a.val = win0_3.index (t.cast N_0.symm) 2 * 128 + 1 * a.val; rw [p2]; omega

/-- **The third call's two results are the reference's.** -/
theorem results (m' : (ℓ : Loc Cert.ReferenceCIdeal.nD Cert.ReferenceCIdeal.τ Cert.ReferenceCIdeal.sig) → Buf (Elt Ideal) ℓ)
    (e0 : m' ((c.tc : Thread Cert.ReferenceCIdeal.nD Cert.ReferenceCIdeal.τ).loc Cert.ReferenceCIdeal.main_arg0) = m ((c.tc : Thread nD τ).loc main_arg0))
    (e1 : m' ((c.tc : Thread Cert.ReferenceCIdeal.nD Cert.ReferenceCIdeal.τ).loc Cert.ReferenceCIdeal.main_arg1) = m ((c.tc : Thread nD τ).loc main_arg1))
    (e2 : m' ((c.tc : Thread Cert.ReferenceCIdeal.nD Cert.ReferenceCIdeal.τ).loc Cert.ReferenceCIdeal.main_arg2) = m ((c.tc : Thread nD τ).loc main_arg2))
    (e3 : m' ((c.tc : Thread Cert.ReferenceCIdeal.nD Cert.ReferenceCIdeal.τ).loc Cert.ReferenceCIdeal.main_arg3) = m ((c.tc : Thread nD τ).loc main_arg3)) :
    (dats m 0 c).arrAt 2 cfg0.N = Cert.ReferenceCIdeal.Value.res_main_v63 m' c ∧ (dats m 0 c).arrAt 3 cfg0.N = Cert.ReferenceCIdeal.Value.res_main_v67 m' c := by
  obtain ⟨W, R, hv, hk, hR, hW⟩ := host_agree m m' c e0 e1 e2 e3
  refine ⟨funext fun (x : (⟨3, ![8, 512, 128]⟩ : Shape).Idx) => ?_, funext fun (x : (⟨3, ![8, 512, 128]⟩ : Shape).Idx) => ?_⟩ <;>
    obtain ⟨t, r, a, rfl⟩ : ∃ (t : Fin 8) (r : Fin 512) (a : Fin 128), x = ix3 t r a := ⟨_, _, _, eq_ix3 x⟩
  · refine (final_values m c W R hR hW t r a).trans (Eq.trans ?_ (congrFun hv (ix3 t r a)).symm)
    exact (turned_rows rfl (best W R).1 _ _ _ _ t r a _ (by show 128 * (t.val + 8) + a.val = 1024 + (128 * t.val + a.val); omega)).symm
  · refine (final_keys m c W R hR hW t r a).trans (Eq.trans ?_ (congrFun hk (ix3 t r a)).symm)
    exact (turned_rows rfl (best W R).2 _ _ _ _ t r a _ (by show 128 * (t.val + 8) + a.val = 1024 + (128 * t.val + a.val); omega)).symm

end

end Cert.NetC

end
-- ==== Proof.lean ====
module

public import proofs.«01_k».proof.Defs
public import proofs.«01_k».proof.Proof.Gen.KernelA
public import proofs.«01_k».proof.Proof.Gen.KernelA.Skeleton
public import proofs.«01_k».proof.Proof.Gen.KernelA.Launch
public import proofs.«01_k».proof.Proof.Gen.KernelA.Points
public import proofs.«01_k».proof.Proof.Gen.KernelA.Frame
public import proofs.«01_k».proof.Proof.Gen.KernelAIdeal
public import proofs.«01_k».proof.Proof.Gen.KernelAIdeal.Skeleton
public import proofs.«01_k».proof.Proof.Gen.KernelAIdeal.Launch
public import proofs.«01_k».proof.Proof.Gen.KernelAIdeal.Points
public import proofs.«01_k».proof.Proof.Gen.KernelAIdeal.Frame
public import proofs.«01_k».proof.Proof.Gen.KernelAIdeal.Value
public import proofs.«01_k».proof.Proof.Gen.ReferenceAIdeal
public import proofs.«01_k».proof.Proof.Gen.ReferenceAIdeal.Run
public import proofs.«01_k».proof.Proof.Gen.KernelB
public import proofs.«01_k».proof.Proof.Gen.KernelB.Skeleton
public import proofs.«01_k».proof.Proof.Gen.KernelB.Launch
public import proofs.«01_k».proof.Proof.Gen.KernelB.Points
public import proofs.«01_k».proof.Proof.Gen.KernelB.Frame
public import proofs.«01_k».proof.Proof.Gen.KernelBIdeal
public import proofs.«01_k».proof.Proof.Gen.KernelBIdeal.Skeleton
public import proofs.«01_k».proof.Proof.Gen.KernelBIdeal.Launch
public import proofs.«01_k».proof.Proof.Gen.KernelBIdeal.Points
public import proofs.«01_k».proof.Proof.Gen.KernelBIdeal.Frame
public import proofs.«01_k».proof.Proof.Gen.KernelBIdeal.Value
public import proofs.«01_k».proof.Proof.Gen.ReferenceBIdeal
public import proofs.«01_k».proof.Proof.Gen.ReferenceBIdeal.Run
public import proofs.«01_k».proof.Proof.Gen.KernelC
public import proofs.«01_k».proof.Proof.Gen.KernelC.Skeleton
public import proofs.«01_k».proof.Proof.Gen.KernelC.Launch
public import proofs.«01_k».proof.Proof.Gen.KernelC.Points
public import proofs.«01_k».proof.Proof.Gen.KernelC.Frame
public import proofs.«01_k».proof.Proof.Gen.KernelCIdeal
public import proofs.«01_k».proof.Proof.Gen.KernelCIdeal.Skeleton
public import proofs.«01_k».proof.Proof.Gen.KernelCIdeal.Launch
public import proofs.«01_k».proof.Proof.Gen.KernelCIdeal.Points
public import proofs.«01_k».proof.Proof.Gen.KernelCIdeal.Frame
public import proofs.«01_k».proof.Proof.Gen.KernelCIdeal.Value
public import proofs.«01_k».proof.Proof.Gen.ReferenceCIdeal
public import proofs.«01_k».proof.Proof.Gen.ReferenceCIdeal.Run
public import Idealize.ShloMosaic.Adequacy
public import Idealize.ShloMosaic.Init
public import proofs.«01_k».proof.Proof.FinalA
public import proofs.«01_k».proof.Proof.FinalB
public import proofs.«01_k».proof.Proof.FinalC

@[expose] public section

noncomputable section

namespace Cert.Proof

open Idealize.ShloMosaic Idealize.SL.Sem

/-- The first call on exact numbers: both runs end with the reference's two results. -/
theorem algebraicA : algebraic_KernelAIdeal_ReferenceAIdeal (hKernelAIdeal := Cert.KernelAIdeal.Gen.facts) (hReferenceAIdeal := Cert.ReferenceAIdeal.Gen.facts) := by
  intro m g m' g' _ e
  have key := fun c => Cert.NetA.results m c m' (e c).1 (e c).2.1 (e c).2.2.1 (e c).2.2.2
  refine ⟨fun c => Cert.ReferenceAIdeal.Value.res_main_v63 m' c, fun c => Cert.ReferenceAIdeal.Value.res_main_v67 m' c, ?_, Cert.ReferenceAIdeal.Value.run m' g'⟩
  exact (θ_run _ _ _).mono (fun _ h c => ⟨(h c).1.trans (key c).1, (h c).2.1.trans (key c).2, (h c).2.2⟩) (Cert.KernelAIdeal.Value.run_blocks m g)

/-- The first call's reference runs and leaves its arguments as they were. -/
theorem frameRA : quiescent_ReferenceAIdeal (hReferenceAIdeal := Cert.ReferenceAIdeal.Gen.facts) := fun m ρ _ =>
  (θ_run _ _ _).mono (fun r h => ⟨fun c => (h c).2.2, sem_eq_zero_of_no_sems (by decide) r.2⟩) (Cert.ReferenceAIdeal.Value.run m ρ)

/-- The second call on exact numbers: both runs end with the reference's two results. -/
theorem algebraicB : algebraic_KernelBIdeal_ReferenceBIdeal (hKernelBIdeal := Cert.KernelBIdeal.Gen.facts) (hReferenceBIdeal := Cert.ReferenceBIdeal.Gen.facts) := by
  intro m g m' g' _ e
  have key := fun c => Cert.NetB.results m c m' (e c).1 (e c).2.1 (e c).2.2.1 (e c).2.2.2
  refine ⟨fun c => Cert.ReferenceBIdeal.Value.res_main_v63 m' c, fun c => Cert.ReferenceBIdeal.Value.res_main_v67 m' c, ?_, Cert.ReferenceBIdeal.Value.run m' g'⟩
  exact (θ_run _ _ _).mono (fun _ h c => ⟨(h c).1.trans (key c).1, (h c).2.1.trans (key c).2, (h c).2.2⟩) (Cert.KernelBIdeal.Value.run_blocks m g)

/-- The second call's reference runs and leaves its arguments as they were. -/
theorem frameRB : quiescent_ReferenceBIdeal (hReferenceBIdeal := Cert.ReferenceBIdeal.Gen.facts) := fun m ρ _ =>
  (θ_run _ _ _).mono (fun r h => ⟨fun c => (h c).2.2, sem_eq_zero_of_no_sems (by decide) r.2⟩) (Cert.ReferenceBIdeal.Value.run m ρ)

/-- The third call on exact numbers: both runs end with the reference's two results. -/
theorem algebraicC : algebraic_KernelCIdeal_ReferenceCIdeal (hKernelCIdeal := Cert.KernelCIdeal.Gen.facts) (hReferenceCIdeal := Cert.ReferenceCIdeal.Gen.facts) := by
  intro m g m' g' _ e
  have key := fun c => Cert.NetC.results m c m' (e c).1 (e c).2.1 (e c).2.2.1 (e c).2.2.2
  refine ⟨fun c => Cert.ReferenceCIdeal.Value.res_main_v63 m' c, fun c => Cert.ReferenceCIdeal.Value.res_main_v67 m' c, ?_, Cert.ReferenceCIdeal.Value.run m' g'⟩
  exact (θ_run _ _ _).mono (fun _ h c => ⟨(h c).1.trans (key c).1, (h c).2.1.trans (key c).2, (h c).2.2⟩) (Cert.KernelCIdeal.Value.run_blocks m g)

/-- The third call's reference runs and leaves its arguments as they were. -/
theorem frameRC : quiescent_ReferenceCIdeal (hReferenceCIdeal := Cert.ReferenceCIdeal.Gen.facts) := fun m ρ _ =>
  (θ_run _ _ _).mono (fun r h => ⟨fun c => (h c).2.2, sem_eq_zero_of_no_sems (by decide) r.2⟩) (Cert.ReferenceCIdeal.Value.run m ρ)

/-- Every conjunct of the claim together. -/
theorem claim : Cert.Claim := ⟨Cert.KernelA.Gen.facts, Cert.KernelAIdeal.Gen.facts, Cert.ReferenceAIdeal.Gen.facts, Cert.KernelB.Gen.facts, Cert.KernelBIdeal.Gen.facts, Cert.ReferenceBIdeal.Gen.facts, Cert.KernelC.Gen.facts, Cert.KernelCIdeal.Gen.facts, Cert.ReferenceCIdeal.Gen.facts,
  fun m ρ _ => Cert.KernelA.Gen.frame m ρ, fun m ρ _ => Cert.KernelAIdeal.Gen.frame m ρ, frameRA,
  fun m ρ _ => Cert.KernelB.Gen.frame m ρ, fun m ρ _ => Cert.KernelBIdeal.Gen.frame m ρ, frameRB,
  fun m ρ _ => Cert.KernelC.Gen.frame m ρ, fun m ρ _ => Cert.KernelCIdeal.Gen.frame m ρ, frameRC,
  IdealRules.named_const.statement Cert.KernelAIdeal.κ "mask" .f32 0xFF7FFFFF#32 ⊥ rfl, algebraicA,
  IdealRules.named_const.statement Cert.KernelBIdeal.κ "mask" .f32 0xFF7FFFFF#32 ⊥ rfl, algebraicB,
  trivial, algebraicC⟩

end Cert.Proof

end
